-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S262144x256 .f32) (main_arg1 : FVec F S256x256 .f32) (main_arg2 : FVec F S256x256 .f32) (main_arg3 : FVec F S256x256 .f32) (main_arg4 : FVec F S256x256 .f32) (main_arg5 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S8x256 : Shape := ⟨2, ![8, 256]⟩
abbrev S256x384 : Shape := ⟨2, ![256, 384]⟩
abbrev S16384x256 : Shape := ⟨2, ![16384, 256]⟩
abbrev S2048x8x256 : Shape := ⟨3, ![2048, 8, 256]⟩
abbrev S8x128 : Shape := ⟨2, ![8, 128]⟩
abbrev S256x128 : Shape := ⟨2, ![256, 128]⟩
abbrev S16384x384 : Shape := ⟨2, ![16384, 384]⟩
abbrev S16384x128 : Shape := ⟨2, ![16384, 128]⟩

abbrev nBuf : Space → Nat
  | .hbm => 20
  | .vmem => 17
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S1x256, .f32⟩
  | .hbm, ⟨15, _⟩ => ⟨S262144x256, .fp8e4m3⟩
  | .hbm, ⟨16, _⟩ => ⟨S256x256, .f32⟩
  | .hbm, ⟨17, _⟩ => ⟨S8x256, .f32⟩
  | .hbm, ⟨18, _⟩ => ⟨S256x384, .f32⟩
  | .hbm, ⟨19, _⟩ => ⟨S262144x256, .f32⟩
  | .local _ .vmem, ⟨0, _⟩ => ⟨S16384x256, .f32⟩
  | .local _ .vmem, ⟨1, _⟩ => ⟨S16384x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S16384x256, .fp8e4m3⟩
  | .local _ .vmem, ⟨7, _⟩ => ⟨S16384x256, .fp8e4m3⟩
  | .local _ .vmem, ⟨8, _⟩ => ⟨S256x256, .f32⟩
  | .local _ .vmem, ⟨9, _⟩ => ⟨S8x256, .f32⟩
  | .local _ .vmem, ⟨10, _⟩ => ⟨S256x384, .f32⟩
  | .local _ .vmem, ⟨11, _⟩ => ⟨S16384x256, .fp8e4m3⟩
  | .local _ .vmem, ⟨12, _⟩ => ⟨S16384x256, .fp8e4m3⟩
  | .local _ .vmem, ⟨13, _⟩ => ⟨S256x384, .f32⟩
  | .local _ .vmem, ⟨14, _⟩ => ⟨S1x256, .f32⟩
  | .local _ .vmem, ⟨15, _⟩ => ⟨S16384x256, .f32⟩
  | .local _ .vmem, ⟨16, _⟩ => ⟨S16384x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9_0 : Ref sig .tc := ⟨.hbm, 15, rfl⟩
abbrev main_call0_v9_1 : Ref sig .tc := ⟨.hbm, 16, rfl⟩
abbrev main_call0_v9_2 : Ref sig .tc := ⟨.hbm, 17, rfl⟩
abbrev main_call0_v9_3 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_14 : BitVec 32 := 0#32
  let v28 : BitVec 1 := Scalar.cmpi .ne v27 c0_i32_14
  v28

def k0_cond2 (i : grid0.Coords) : BitVec 1 :=
  let arg0 : BitVec 32 := BitVec.ofNat 32 (i 0).val
  let c0_i32_15 : BitVec 32 := 0#32
  let v29 : BitVec 1 := Scalar.cmpi .ne arg0 c0_i32_15
  let v30 : BitVec 32 := Scalar.extui v29
  let c0_i32_16 : BitVec 32 := 0#32
  let v31 : BitVec 1 := Scalar.cmpi .ne v30 c0_i32_16
  v31

def k0_cond3 (i : grid0.Coords) : BitVec 1 :=
  let arg0 : BitVec 32 := BitVec.ofNat 32 (i 0).val
  let c15_i32 : BitVec 32 := 15#32
  let v32 : BitVec 1 := Scalar.cmpi .eq arg0 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x256 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S256x262144 : Shape := ⟨2, ![256, 262144]⟩
abbrev S262144 : Shape := ⟨1, ![262144]⟩
abbrev S262144x1 : Shape := ⟨2, ![262144, 1]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S262144x256, .f32⟩
  | .hbm, ⟨8, _⟩ => ⟨S_, .f32⟩
  | .hbm, ⟨9, _⟩ => ⟨S262144x256, .f32⟩
  | .hbm, ⟨10, _⟩ => ⟨S262144x256, .i1⟩
  | .hbm, ⟨11, _⟩ => ⟨S_, .f32⟩
  | .hbm, ⟨12, _⟩ => ⟨S262144x256, .f32⟩
  | .hbm, ⟨13, _⟩ => ⟨S262144x256, .i1⟩
  | .hbm, ⟨14, _⟩ => ⟨S_, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S262144x256, .f32⟩
  | .hbm, ⟨23, _⟩ => ⟨S_, .f32⟩
  | .hbm, ⟨24, _⟩ => ⟨S262144x256, .f32⟩
  | .hbm, ⟨25, _⟩ => ⟨S262144x256, .f32⟩
  | .hbm, ⟨26, _⟩ => ⟨S256x256, .f32⟩
  | .hbm, ⟨27, _⟩ => ⟨S262144x256, .f32⟩
  | .hbm, ⟨28, _⟩ => ⟨S_, .f32⟩
  | .hbm, ⟨29, _⟩ => ⟨S262144x256, .f32⟩
  | .hbm, ⟨30, _⟩ => ⟨S262144x256, .i1⟩
  | .hbm, ⟨31, _⟩ => ⟨S_, .f32⟩
  | .hbm, ⟨32, _⟩ => ⟨S262144x256, .f32⟩
  | .hbm, ⟨33, _⟩ => ⟨S262144x256, .i1⟩
  | .hbm, ⟨34, _⟩ => ⟨S_, .f32⟩
  | .hbm, ⟨35, _⟩ => ⟨S_, .f32⟩
  | .hbm, ⟨36, _⟩ => ⟨S262144x256, .f32⟩
  | .hbm, ⟨37, _⟩ => ⟨S262144x256, .f32⟩
  | .hbm, ⟨38, _⟩ => ⟨S262144x256, .f32⟩
  | .hbm, ⟨39, _⟩ => ⟨S_, .f32⟩
  | .hbm, ⟨40, _⟩ => ⟨S262144x256, .f32⟩
  | .hbm, ⟨41, _⟩ => ⟨S262144x256, .f32⟩
  | .hbm, ⟨42, _⟩ => ⟨S262144x256, .f32⟩
  | .hbm, ⟨43, _⟩ => ⟨S_, .f32⟩
  | .hbm, ⟨44, _⟩ => ⟨S262144x256, .f32⟩
  | .hbm, ⟨45, _⟩ => ⟨S262144x256, .f32⟩
  | .hbm, ⟨46, _⟩ => ⟨S256x256, .f32⟩
  | .hbm, ⟨47, _⟩ => ⟨S262144x256, .f32⟩
  | .hbm, ⟨48, _⟩ => ⟨S256x262144, .f32⟩
  | .hbm, ⟨49, _⟩ => ⟨S256x256, .f32⟩
  | .hbm, ⟨50, _⟩ => ⟨S_, .f32⟩
  | .hbm, ⟨51, _⟩ => ⟨S256, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S262144x256, .f32⟩
  | .hbm, ⟨60, _⟩ => ⟨S262144x1, .f32⟩
  | .hbm, ⟨61, _⟩ => ⟨S262144x256, .f32⟩
  | .hbm, ⟨62, _⟩ => ⟨S262144x256, .f32⟩
  | .hbm, ⟨63, _⟩ => ⟨S256x256, .f32⟩
  | .hbm, ⟨64, _⟩ => ⟨S262144x256, .f32⟩
  | .hbm, ⟨65, _⟩ => ⟨S1x256, .f32⟩
  | .hbm, ⟨66, _⟩ => ⟨S262144x256, .f32⟩
  | .hbm, ⟨67, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_cst_1 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_v4 : Ref sig .tc := ⟨.hbm, 17, rfl⟩
abbrev main_call0_v5 : Ref sig .tc := ⟨.hbm, 18, rfl⟩
abbrev main_call0_cst_2 : Ref sig .tc := ⟨.hbm, 19, rfl⟩
abbrev main_call0_v6 : Ref sig .tc := ⟨.hbm, 20, rfl⟩
abbrev main_call0_v7 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_cst_1 : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_v4 : Ref sig .tc := ⟨.hbm, 37, rfl⟩
abbrev main_call1_v5 : Ref sig .tc := ⟨.hbm, 38, rfl⟩
abbrev main_call1_cst_2 : Ref sig .tc := ⟨.hbm, 39, rfl⟩
abbrev main_call1_v6 : Ref sig .tc := ⟨.hbm, 40, rfl⟩
abbrev main_call1_v7 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_1 : Ref sig .tc := ⟨.hbm, 50, rfl⟩
abbrev main_v14 : Ref sig .tc := ⟨.hbm, 51, rfl⟩
abbrev main_v15 : Ref sig .tc := ⟨.hbm, 52, rfl⟩
abbrev main_cst_2 : Ref sig .tc := ⟨.hbm, 53, rfl⟩
abbrev main_v16 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩

abbrev nD : Nat := 1
abbrev τ : Topo := Topo.v7x

variable {F : FTy → Type} [FloatOps F]
-- ==== Proof.ReduceBody.lean ====
/-
  What one grid point of the first call computes.

  The first call walks the rows in 16 blocks.  At the first point it stores the block's sums, at the later ones it adds
  them to what the point before left, and at the last one it also forms the matrix the second call multiplies by.
  Each theorem here states one of these three cases as a triple of the printed kernel function over any staging buffers.
-/
module

public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Lga

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M` held whole on core `c`, reading `x`. -/
abbrev own (c : Dev nD) {S : Shape} {e : EltTy} (M : Memref sig .tc .vmem S e) (x : Vec F S e) : sProp 𝕄 :=
  owns (c : Thread nD τ) M fullShare x

/-- The point is the first one. -/
abbrev isFirst (i : grid0.Coords) : Prop := k0_cond1 i = 1#1
/-- The point is a later one. -/
abbrev isLater (i : grid0.Coords) : Prop := k0_cond2 i = 1#1
/-- The point is the last one. -/
abbrev isLast (i : grid0.Coords) : Prop := k0_cond3 i = 1#1

variable (c : Dev nD) (i : grid0.Coords)
  (a1 : Memref sig .tc .vmem S16384x256 .f32) (h1 : a1.IsWhole) (a2 : Memref sig .tc .vmem S256x256 .bf16) (h2 : a2.IsWhole)
  (a3 : Memref sig .tc .vmem S256x256 .bf16) (h3 : a3.IsWhole) (a4 : Memref sig .tc .vmem S256x256 .bf16) (h4 : a4.IsWhole)
  (a5 : Memref sig .tc .vmem S256x256 .bf16) (h5 : a5.IsWhole) (a6 : Memref sig .tc .vmem S16384x256 .fp8e4m3) (h6 : a6.IsWhole)
  (a7 : Memref sig .tc .vmem S256x256 .f32) (h7 : a7.IsWhole) (a8 : Memref sig .tc .vmem S8x256 .f32) (h8 : a8.IsWhole)
  (a9 : Memref sig .tc .vmem S256x384 .f32) (h9 : a9.IsWhole)
  (x : Vec F S16384x256 .f32) (wq wk wv wo : Vec F S256x256 .bf16)

/-- The five inputs' buffers, at their blocks. -/
abbrev inputs : sProp 𝕄 :=
  iprop(own c a1 x ∗ own c a2 wq ∗ own c a3 wk ∗ own c a4 wv ∗ own c a5 wo)

/-- The first point: the query block is stored, the two sums are the block's own, and the last buffer is untouched. -/
theorem body_first (hf : isFirst i) (hl : ¬isLater i) (hz : ¬isLast i) (d9 : Vec F S256x384 .f32) (E : Set ℕ) (K : PUnit → sProp 𝕄) :
    iprop(inputs c a1 a2 a3 a4 a5 x wq wk wv wo ∗ (∃ d, own c a6 d) ∗ (∃ d, own c a7 d) ∗ (∃ d, own c a8 d) ∗ own c a9 d9
        ∗ (iprop(inputs c a1 a2 a3 a4 a5 x wq wk wv wo ∗ own c a6 (k0_pay3 x wq) ∗ own c a7 (k0_pay5 x wk) ∗ own c a8 (k0_pay6 x wk)
            ∗ own c a9 d9) -∗ K ⟨⟩))
      ⊢ wp frame (wpE (defs₀ (F := F)) Variants.none c none) E (cc0_lga_reduce i a1 h1 a2 h2 a3 h3 a4 h4 a5 h5 a6 h6 a7 h7 a8 h8 a9 h9) K := by
  simp only [cc0_lga_reduce_eq_skeleton]; unfold cc0_lga_reduce_skel
  simp only [k0_part1_eq_skeleton]
  unfold inputs own owns
  iintro ⟨⟨⟨%f1, %e1, H1⟩, ⟨%f2, %e2, H2⟩, ⟨%f3, %e3, H3⟩, ⟨%f4, %e4, H4⟩, ⟨%f5, %e5, H5⟩⟩, ⟨%d6, %f6, -, H6⟩, ⟨%d7, %f7, -, H7⟩, ⟨%d8, %f8, -, H8⟩, ⟨%f9, %e9, H9⟩, Hk⟩
  obtain rfl := h1.eq_unread e1; obtain rfl := h2.eq_unread e2; obtain rfl := h3.eq_unread e3; obtain rfl := h4.eq_unread e4
  obtain rfl := h5.eq_unread e5; obtain rfl := h9.eq_unread e9
  sl_exec (disch := first | sl_exact hf | sl_exact hl | sl_exact hz)
  sl_step
  iapply Hk
  isplitl [H1 H2 H3 H4 H5]
  · isplitl [H1]; · iexists _; isplitr; (· ipureintro; exact h1.read_unread _); iexact H1
    isplitl [H2]; · iexists _; isplitr; (· ipureintro; exact h2.read_unread _); iexact H2
    isplitl [H3]; · iexists _; isplitr; (· ipureintro; exact h3.read_unread _); iexact H3
    isplitl [H4]; · iexists _; isplitr; (· ipureintro; exact h4.read_unread _); iexact H4
    iexists _; isplitr; (· ipureintro; exact h5.read_unread _); iexact H5
  isplitl [H6]
  · iexists _; isplitr; swap; (· iexact H6)
    ipureintro
    rw [View.read_writes_full, View.readAt_full, View.readAt_full, e1, e2]
  isplitl [H7]
  · iexists _; isplitr; swap; (· iexact H7)
    ipureintro
    rw [View.read_writes_full, View.readAt_full, View.readAt_full, e1, e3]
  isplitl [H8]
  · iexists _; isplitr; swap; (· iexact H8)
    ipureintro
    rw [View.read_writes_full, View.readAt_full, View.readAt_full, e1, e3]
  iexists _; isplitr; (· ipureintro; exact h9.read_unread _); iexact H9

/-- A later point before the last: the query block is stored, the block's sums are added to what was there, and the
    last buffer is untouched. -/
theorem body_later (hf : ¬isFirst i) (hl : isLater i) (hz : ¬isLast i) (s : Vec F S256x256 .f32) (r : Vec F S8x256 .f32)
    (d9 : Vec F S256x384 .f32) (E : Set ℕ) (K : PUnit → sProp 𝕄) :
    iprop(inputs c a1 a2 a3 a4 a5 x wq wk wv wo ∗ (∃ d, own c a6 d) ∗ own c a7 s ∗ own c a8 r ∗ own c a9 d9
        ∗ (iprop(inputs c a1 a2 a3 a4 a5 x wq wk wv wo ∗ own c a6 (k0_pay3 x wq) ∗ own c a7 (k0_pay7 x wk s) ∗ own c a8 (k0_pay8 x wk r)
            ∗ own c a9 d9) -∗ K ⟨⟩))
      ⊢ wp frame (wpE (defs₀ (F := F)) Variants.none c none) E (cc0_lga_reduce i a1 h1 a2 h2 a3 h3 a4 h4 a5 h5 a6 h6 a7 h7 a8 h8 a9 h9) K := by
  simp only [cc0_lga_reduce_eq_skeleton]; unfold cc0_lga_reduce_skel
  simp only [k0_part1_eq_skeleton]
  unfold inputs own owns
  iintro ⟨⟨⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%f8, %e8, H8⟩, ⟨%f9, %e9, H9⟩, Hk⟩
  obtain rfl := h1.eq_unread e1; obtain rfl := h2.eq_unread e2; obtain rfl := h3.eq_unread e3; obtain rfl := h4.eq_unread e4
  obtain rfl := h5.eq_unread e5; obtain rfl := h7.eq_unread e7; obtain rfl := h8.eq_unread e8; obtain rfl := h9.eq_unread e9
  sl_exec (disch := first | sl_exact hf | sl_exact hl | sl_exact hz)
  sl_step
  iapply Hk
  isplitl [H1 H2 H3 H4 H5]
  · isplitl [H1]; · iexists _; isplitr; (· ipureintro; exact h1.read_unread _); iexact H1
    isplitl [H2]; · iexists _; isplitr; (· ipureintro; exact h2.read_unread _); iexact H2
    isplitl [H3]; · iexists _; isplitr; (· ipureintro; exact h3.read_unread _); iexact H3
    isplitl [H4]; · iexists _; isplitr; (· ipureintro; exact h4.read_unread _); iexact H4
    iexists _; isplitr; (· ipureintro; exact h5.read_unread _); iexact H5
  isplitl [H6]
  · iexists _; isplitr; swap; (· iexact H6)
    ipureintro
    rw [View.read_writes_full, View.readAt_full, View.readAt_full, e1, e2]
  isplitl [H7]
  · iexists _; isplitr; swap; (· iexact H7)
    ipureintro
    rw [View.read_writes_full, View.readAt_full, View.readAt_full, View.readAt_full, e1, e3, e7]
  isplitl [H8]
  · iexists _; isplitr; swap; (· iexact H8)
    ipureintro
    rw [View.read_writes_full, View.readAt_full, View.readAt_full, View.readAt_full, e1, e3, e8]
  iexists _; isplitr; (· ipureintro; exact h9.read_unread _); iexact H9

/-- The last point: as a later one, and the last buffer is left at the matrix made of the two finished sums. -/
theorem body_last (hf : ¬isFirst i) (hl : isLater i) (hz : isLast i) (s : Vec F S256x256 .f32) (r : Vec F S8x256 .f32)
    (E : Set ℕ) (K : PUnit → sProp 𝕄) :
    iprop(inputs c a1 a2 a3 a4 a5 x wq wk wv wo ∗ (∃ d, own c a6 d) ∗ own c a7 s ∗ own c a8 r ∗ (∃ d, own c a9 d)
        ∗ (iprop(inputs c a1 a2 a3 a4 a5 x wq wk wv wo ∗ own c a6 (k0_pay3 x wq) ∗ own c a7 (k0_pay7 x wk s) ∗ own c a8 (k0_pay8 x wk r)
            ∗ own c a9 (k0_pay1 wv wo (k0_pay7 x wk s) (k0_pay8 x wk r))) -∗ K ⟨⟩))
      ⊢ wp frame (wpE (defs₀ (F := F)) Variants.none c none) E (cc0_lga_reduce i a1 h1 a2 h2 a3 h3 a4 h4 a5 h5 a6 h6 a7 h7 a8 h8 a9 h9) K := by
  simp only [cc0_lga_reduce_eq_skeleton]; unfold cc0_lga_reduce_skel
  simp only [k0_part1_eq_skeleton]
  unfold inputs own owns
  iintro ⟨⟨⟨%f1, %e1, H1⟩, ⟨%f2, %e2, H2⟩, ⟨%f3, %e3, H3⟩, ⟨%f4, %e4, H4⟩, ⟨%f5, %e5, H5⟩⟩, ⟨%d6, %f6, -, H6⟩, ⟨%f7, %e7, H7⟩, ⟨%f8, %e8, H8⟩, ⟨%d9, %f9, -, H9⟩, Hk⟩
  obtain rfl := h1.eq_unread e1; obtain rfl := h2.eq_unread e2; obtain rfl := h3.eq_unread e3; obtain rfl := h4.eq_unread e4
  obtain rfl := h5.eq_unread e5; obtain rfl := h7.eq_unread e7; obtain rfl := h8.eq_unread e8
  sl_exec (disch := first | sl_exact hf | sl_exact hl | sl_exact hz)
  sl_step
  iapply Hk
  isplitl [H1 H2 H3 H4 H5]
  · isplitl [H1]; · iexists _; isplitr; (· ipureintro; exact h1.read_unread _); iexact H1
    isplitl [H2]; · iexists _; isplitr; (· ipureintro; exact h2.read_unread _); iexact H2
    isplitl [H3]; · iexists _; isplitr; (· ipureintro; exact h3.read_unread _); iexact H3
    isplitl [H4]; · iexists _; isplitr; (· ipureintro; exact h4.read_unread _); iexact H4
    iexists _; isplitr; (· ipureintro; exact h5.read_unread _); iexact H5
  isplitl [H6]
  · iexists _; isplitr; swap; (· iexact H6)
    ipureintro
    rw [View.read_writes_full, View.readAt_full, View.readAt_full, e1, e2]
  isplitl [H7]
  · iexists _; isplitr; swap; (· iexact H7)
    ipureintro
    unfold body_last.sl.H7_1
    rw [View.read_writes_full, View.readAt_full, View.readAt_full, View.readAt_full, e1, e3, e7]
  isplitl [H8]
  · iexists _; isplitr; swap; (· iexact H8)
    ipureintro
    unfold body_last.sl.H8_1
    rw [View.read_writes_full, View.readAt_full, View.readAt_full, View.readAt_full, e1, e3, e8]
  iexists _; isplitr; swap; (· iexact H9)
  ipureintro
  refine (View.read_writes_full _ _ _ _ _).trans ?_
  unfold body_last.sl.v40 body_last.sl.v45
  unfold body_last.sl.H7_1 body_last.sl.H8_1
  have q7 := View.readCov_full a7.view (Val := Elt F) inb_S256x256_S256x256_0_0 inb_S256x256_S256x256_0_0 (k0_pay7 x wk s) []
  have q8 := View.readCov_full a8.view (Val := Elt F) inb_S8x256_S8x256_0_0 inb_S8x256_S8x256_0_0 (k0_pay8 x wk r) []
  rw [View.readAt_full a1.view, View.readAt_full a3.view, View.readAt_full a4.view, View.readAt_full a5.view, View.readAt_full a7.view,
    View.readAt_full a8.view, e1, e3, e4, e5, e7, e8]
  exact congrArg₂ (k0_pay1 wv wo) q7 q8

end Cert.KernelIdeal.Lga

end
-- ==== Proof.ReduceRegion.lean ====
/-
  The first call as a whole: what its four result arrays hold when its 16 points have run.

  The call is entered at any contents `V` of the buffers.  The sums it carries from point to point are `sums`; the data
  of its pipeline are `dat0`; that its body does what the data say is `obligation0`.
-/
module

public import proofs.«01_k».proof.Proof.ReduceBody
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.TableIdle
public import Idealize.ShloMosaic.Lib.WordCmp

@[expose] public section

set_option maxRecDepth 16384

noncomputable section

namespace Cert.KernelIdeal.Lga

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer of a core. -/
abbrev Bufs : Type := (c : Dev nD) → (b : Ref sig .tc) → Buf (Elt F) ((c : Thread nD τ).loc b)

variable (V : Bufs (F := F))

/-! ## Which point is which -/

/-- The first point is point 0. -/
theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, k0_cond1, e0]
  word_cmp

/-- A later point is one from point 1 on. -/
theorem isLater_iff (t : Fin cfg0.N) : isLater (grid0.coords t) ↔ 1 ≤ t.val := by
  have ht : t.val < 16 := Nat.lt_of_lt_of_eq t.isLt N_0
  have e0 : (grid0.coords t 0).val = t.val / 1 % 16 := Pipeline.Grid.coords_val t 0 (by decide) rfl
  simp only [isLater, k0_cond2, e0]
  word_cmp

/-- The last point is point 15. -/
theorem isLast_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  simp only [isLast, k0_cond3, e0]
  word_cmp

/-! ## The blocks and the sums -/

/-- Window `w`'s block at point `t`, read off its array as the call finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two sums after point `n`: the first point's own, then each later point's added. -/
def sums (c : Dev nD) : (n : ℕ) → n < cfg0.N → Vec F S256x256 .f32 × Vec F S8x256 .f32
  | 0, h => (k0_pay5 (block0 V c 0 ⟨0, h⟩) (block0 V c 2 ⟨0, h⟩), k0_pay6 (block0 V c 0 ⟨0, h⟩) (block0 V c 2 ⟨0, h⟩))
  | n + 1, h =>
    (k0_pay7 (block0 V c 0 ⟨n + 1, h⟩) (block0 V c 2 ⟨n + 1, h⟩) (sums c n (Nat.lt_of_succ_lt h)).1,
     k0_pay8 (block0 V c 0 ⟨n + 1, h⟩) (block0 V c 2 ⟨n + 1, h⟩) (sums c n (Nat.lt_of_succ_lt h)).2)

/-- The sums after point 0. -/
theorem sums_first (c : Dev nD) (t : Fin cfg0.N) (h : t.val = 0) :
    sums V c t.val t.isLt = (k0_pay5 (block0 V c 0 t) (block0 V c 2 t), k0_pay6 (block0 V c 0 t) (block0 V c 2 t)) := by
  obtain ⟨n, hn⟩ := t
  cases n with
  | zero => rfl
  | succ n => exact absurd h (Nat.succ_ne_zero n)

/-- The sums after a later point. -/
theorem sums_later (c : Dev nD) (t : Fin cfg0.N) (h : 1 ≤ t.val) :
    sums V c t.val t.isLt
      = (k0_pay7 (block0 V c 0 t) (block0 V c 2 t) (sums V c (t.val - 1) (Nat.lt_of_le_of_lt (Nat.sub_le _ _) t.isLt)).1,
         k0_pay8 (block0 V c 0 t) (block0 V c 2 t) (sums V c (t.val - 1) (Nat.lt_of_le_of_lt (Nat.sub_le _ _) t.isLt)).2) := by
  obtain ⟨n, hn⟩ := t
  cases n with
  | zero => exact absurd h (by simp)
  | succ n => rfl

/-! ## The pipeline's data -/

/-- The data of the first call's pipeline: the arrays as found, every input's buffer at its block, the result buffers
    at the queries, the sums and the second call's matrix. -/
def dat0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => block0 V c 4 t
    | ⟨5, _⟩ => k0_pay3 (block0 V c 0 t) (block0 V c 1 t)
    | ⟨6, _⟩ => (sums V c t.val t.isLt).1
    | ⟨7, _⟩ => (sums V c t.val t.isLt).2
    | ⟨8, _⟩ => k0_pay1 (block0 V c 3 t) (block0 V c 4 t) (sums V c t.val t.isLt).1 (sums V c t.val t.isLt).2
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = block0 V c 0 t := by dsimp only [dat0]
theorem after0_1 (c : Dev nD) (t : Fin cfg0.N) : (dat0 V c).after 1 t = block0 V c 1 t := by dsimp only [dat0]
theorem after0_2 (c : Dev nD) (t : Fin cfg0.N) : (dat0 V c).after 2 t = block0 V c 2 t := by dsimp only [dat0]
theorem after0_3 (c : Dev nD) (t : Fin cfg0.N) : (dat0 V c).after 3 t = block0 V c 3 t := by dsimp only [dat0]
theorem after0_4 (c : Dev nD) (t : Fin cfg0.N) : (dat0 V c).after 4 t = block0 V c 4 t := by dsimp only [dat0]
theorem after0_5 (c : Dev nD) (t : Fin cfg0.N) : (dat0 V c).after 5 t = k0_pay3 (block0 V c 0 t) (block0 V c 1 t) := by dsimp only [dat0]
theorem after0_6 (c : Dev nD) (t : Fin cfg0.N) : (dat0 V c).after 6 t = (sums V c t.val t.isLt).1 := by dsimp only [dat0]
theorem after0_7 (c : Dev nD) (t : Fin cfg0.N) : (dat0 V c).after 7 t = (sums V c t.val t.isLt).2 := by dsimp only [dat0]
theorem after0_8 (c : Dev nD) (t : Fin cfg0.N) :
    (dat0 V c).after 8 t = k0_pay1 (block0 V c 3 t) (block0 V c 4 t) (sums V c t.val t.isLt).1 (sums V c t.val t.isLt).2 := by dsimp only [dat0]

/-! ## What the body finds: an input's buffer holds its block, fetched at this point or kept from an earlier one -/

theorem before0_0 (c : Dev nD) (t : Fin cfg0.N) (d) : (dat0 V c).before 0 t d = block0 V c 0 t :=
  ((dat0 V c).before_in_eq_fetched 0 rfl (fun _ => rfl) (fun _ _ _ => rfl)
      (fun t => by rw [after0_0]; unfold Dat.blockOf block0; rw [dat0_A]; try rfl) t d).trans
    (by unfold Dat.fetched Dat.blockOf block0; rw [dat0_A]; try rfl)
theorem before0_1 (c : Dev nD) (t : Fin cfg0.N) (d) : (dat0 V c).before 1 t d = block0 V c 1 t :=
  ((dat0 V c).before_in_eq_fetched 1 rfl (fun _ => rfl) (fun _ _ _ => rfl)
      (fun t => by rw [after0_1]; unfold Dat.blockOf block0; rw [dat0_A]; try rfl) t d).trans
    (by unfold Dat.fetched Dat.blockOf block0; rw [dat0_A]; try rfl)
theorem before0_2 (c : Dev nD) (t : Fin cfg0.N) (d) : (dat0 V c).before 2 t d = block0 V c 2 t :=
  ((dat0 V c).before_in_eq_fetched 2 rfl (fun _ => rfl) (fun _ _ _ => rfl)
      (fun t => by rw [after0_2]; unfold Dat.blockOf block0; rw [dat0_A]; try rfl) t d).trans
    (by unfold Dat.fetched Dat.blockOf block0; rw [dat0_A]; try rfl)
theorem before0_3 (c : Dev nD) (t : Fin cfg0.N) (d) : (dat0 V c).before 3 t d = block0 V c 3 t :=
  ((dat0 V c).before_in_eq_fetched 3 rfl (fun _ => rfl) (fun _ _ _ => rfl)
      (fun t => by rw [after0_3]; unfold Dat.blockOf block0; rw [dat0_A]; try rfl) t d).trans
    (by unfold Dat.fetched Dat.blockOf block0; rw [dat0_A]; try rfl)
theorem before0_4 (c : Dev nD) (t : Fin cfg0.N) (d) : (dat0 V c).before 4 t d = block0 V c 4 t :=
  ((dat0 V c).before_in_eq_fetched 4 rfl (fun _ => rfl) (fun _ _ _ => rfl)
      (fun t => by rw [after0_4]; unfold Dat.blockOf block0; rw [dat0_A]; try rfl) t d).trans
    (by unfold Dat.fetched Dat.blockOf block0; rw [dat0_A]; try rfl)

/-! ## Where the result windows are idle -/

/-- The two sums are stored at every point. -/
theorem live0_6 : ∀ t : Fin cfg0.N, cfg0.idle 6 (grid0.coords t) = false := by decide +kernel
theorem live0_7 : ∀ t : Fin cfg0.N, cfg0.idle 7 (grid0.coords t) = false := by decide +kernel
/-- The matrix is stored at the last point only, and written back there only. -/
theorem idle0_8 : ∀ t : Fin cfg0.N, t.val ≠ 15 → cfg0.idle 8 (grid0.coords t) = true := by decide +kernel
theorem live0_8 : ∀ t : Fin cfg0.N, t.val = 15 → cfg0.idle 8 (grid0.coords t) = false := by decide +kernel
theorem kept0_8 : ∀ t : Fin cfg0.N, t.val ≠ 15 → (cfg0.win 8).flush t = false := by decide +kernel

/-- The sums are not written back before the last point. -/
theorem kept0_6 : ∀ t : Fin cfg0.N, t.val ≠ 15 → (cfg0.win 6).flush t = false := by decide +kernel
theorem kept0_7 : ∀ t : Fin cfg0.N, t.val ≠ 15 → (cfg0.win 7).flush t = false := by decide +kernel

/-- So after the first point their buffers hold what some earlier point stored. -/
theorem fresh0 (w : Fin cfg0.W) (hl : ∀ t : Fin cfg0.N, cfg0.idle w (grid0.coords t) = false)
    (hk : ∀ t : Fin cfg0.N, t.val ≠ 15 → (cfg0.win w).flush t = false) (t : Fin cfg0.N) (h : 1 ≤ t.val) :
    cfg0.fresh w t.val = false := by
  have ht : t.val < 16 := Nat.lt_of_lt_of_eq t.isLt N_0
  obtain ⟨n, hn⟩ := t
  cases n with
  | zero => exact absurd h (by simp)
  | succ n =>
    have hn' : n < cfg0.N := Nat.lt_of_succ_lt hn
    have e : cfg0.idle w (cfg0.grid.coords ⟨n, hn'⟩) = false := hl ⟨n, hn'⟩
    show cfg0.fresh w (n + 1) = false
    rw [Cfg.fresh_succ cfg0 w n hn', hk ⟨n, hn'⟩ (by dsimp only at ht ⊢; omega), e]
    rfl

/-- At a later point each sum's buffer holds the sum after the point before. -/
theorem before0_6 (c : Dev nD) (t : Fin cfg0.N) (h : 1 ≤ t.val) (d) :
    (dat0 V c).before 6 t d = (sums V c (t.val - 1) (Nat.lt_of_le_of_lt (Nat.sub_le _ _) t.isLt)).1 := by
  rw [Dat.before_out_traj (dat0 V c) 6 rfl (fun _ _ => rfl)
      (fun t _ hi _ => absurd (show cfg0.idle 6 (grid0.coords t) = true from hi) (by rw [live0_6 t]; exact Bool.false_ne_true)) t.val t rfl d,
    fresh0 6 live0_6 kept0_6 t h]
  dsimp only [dat0, Bool.false_eq_true, if_false]
  exact if_neg Bool.false_ne_true
theorem before0_7 (c : Dev nD) (t : Fin cfg0.N) (h : 1 ≤ t.val) (d) :
    (dat0 V c).before 7 t d = (sums V c (t.val - 1) (Nat.lt_of_le_of_lt (Nat.sub_le _ _) t.isLt)).2 := by
  rw [Dat.before_out_traj (dat0 V c) 7 rfl (fun _ _ => rfl)
      (fun t _ hi _ => absurd (show cfg0.idle 7 (grid0.coords t) = true from hi) (by rw [live0_7 t]; exact Bool.false_ne_true)) t.val t rfl d,
    fresh0 7 live0_7 kept0_7 t h]
  dsimp only [dat0]
  exact if_neg Bool.false_ne_true

/-! ## The body at every point -/

theorem leaves0_0 (c : Dev nD) (t : Fin cfg0.N) : (dat0 V c).leavesExact 0 t = owns (c : Thread nD τ) (st0_0 t) fullShare ((dat0 V c).after 0 t) := by
  unfold Dat.leavesExact; rw [show cfg0.idle 0 (cfg0.grid.coords t) = false from rfl]
theorem leaves0_1 (c : Dev nD) (t : Fin cfg0.N) : (dat0 V c).leavesExact 1 t = owns (c : Thread nD τ) (st0_1 t) fullShare ((dat0 V c).after 1 t) := by
  unfold Dat.leavesExact; rw [show cfg0.idle 1 (cfg0.grid.coords t) = false from rfl]
theorem leaves0_2 (c : Dev nD) (t : Fin cfg0.N) : (dat0 V c).leavesExact 2 t = owns (c : Thread nD τ) (st0_2 t) fullShare ((dat0 V c).after 2 t) := by
  unfold Dat.leavesExact; rw [show cfg0.idle 2 (cfg0.grid.coords t) = false from rfl]
theorem leaves0_3 (c : Dev nD) (t : Fin cfg0.N) : (dat0 V c).leavesExact 3 t = owns (c : Thread nD τ) (st0_3 t) fullShare ((dat0 V c).after 3 t) := by
  unfold Dat.leavesExact; rw [show cfg0.idle 3 (cfg0.grid.coords t) = false from rfl]
theorem leaves0_4 (c : Dev nD) (t : Fin cfg0.N) : (dat0 V c).leavesExact 4 t = owns (c : Thread nD τ) (st0_4 t) fullShare ((dat0 V c).after 4 t) := by
  unfold Dat.leavesExact; rw [show cfg0.idle 4 (cfg0.grid.coords t) = false from rfl]
theorem leaves0_5 (c : Dev nD) (t : Fin cfg0.N) : (dat0 V c).leavesExact 5 t = owns (c : Thread nD τ) (st0_5 t) fullShare ((dat0 V c).after 5 t) := by
  unfold Dat.leavesExact; rw [show cfg0.idle 5 (cfg0.grid.coords t) = false from rfl]
theorem leaves0_6 (c : Dev nD) (t : Fin cfg0.N) : (dat0 V c).leavesExact 6 t = owns (c : Thread nD τ) (st0_6 t) fullShare ((dat0 V c).after 6 t) := by
  unfold Dat.leavesExact; rw [show cfg0.idle 6 (cfg0.grid.coords t) = false from live0_6 t]
theorem leaves0_7 (c : Dev nD) (t : Fin cfg0.N) : (dat0 V c).leavesExact 7 t = owns (c : Thread nD τ) (st0_7 t) fullShare ((dat0 V c).after 7 t) := by
  unfold Dat.leavesExact; rw [show cfg0.idle 7 (cfg0.grid.coords t) = false from live0_7 t]
theorem leaves0_8 (c : Dev nD) (t : Fin cfg0.N) (h : t.val = 15) :
    (dat0 V c).leavesExact 8 t = owns (c : Thread nD τ) (st0_8 t) fullShare ((dat0 V c).after 8 t) := by
  unfold Dat.leavesExact; rw [show cfg0.idle 8 (cfg0.grid.coords t) = false from live0_8 t h]

/-- What the body finds at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What the body leaves. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The body at any point: by whether it is the first, a middle or the last one. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  rw [leaves0_0, leaves0_1, leaves0_2, leaves0_3, leaves0_4, leaves0_5, leaves0_6, leaves0_7,
    after0_0, after0_1, after0_2, after0_3, after0_4, after0_5, after0_6, after0_7]
  have ht : t.val < 16 := Nat.lt_of_lt_of_eq t.isLt N_0
  by_cases h0 : t.val = 0
  · rw [Dat.leavesExact_idle (dat0 V c) 8 t (idle0_8 t (by omega)) (kept0_8 t (by omega)), sums_first V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ (block0 V c 0 t) (block0 V c 1 t) (block0 V c 2 t) (block0 V c 3 t) (block0 V c 4 t)
      ((isFirst_iff t).mpr h0) (fun h => absurd ((isLater_iff t).mp h) (by omega)) (fun h => absurd ((isLast_iff t).mp h) (by omega)) _ Set.univ _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexact H8
    iintro ⟨⟨H0, H1, H2, H3, H4⟩, H5, H6, H7, H8⟩
    iframe
    iexists _; iexact H8
  · have h1 : 1 ≤ t.val := by omega
    simp only [before0_6 V c t h1, before0_7 V c t h1]
    rw [sums_later V c t h1]
    dsimp only
    by_cases h2 : t.val = 15
    · rw [leaves0_8 V c t h2, after0_8, sums_later V c t h1]
      dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ (block0 V c 0 t) (block0 V c 1 t) (block0 V c 2 t) (block0 V c 3 t) (block0 V c 4 t)
        (fun h => absurd ((isFirst_iff t).mp h) (by omega)) ((isLater_iff t).mpr h1) ((isLast_iff t).mpr h2) _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      isplitl [H8]; · iexists _; iexact H8
      iintro ⟨⟨H0, H1, H2, H3, H4⟩, H5, H6, H7, H8⟩
      iframe
    · rw [Dat.leavesExact_idle (dat0 V c) 8 t (idle0_8 t h2) (kept0_8 t h2)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_later c (grid0.coords t) _ _ _ _ _ _ _ _ _ _ _ _ _ _ _ _ _ _ (block0 V c 0 t) (block0 V c 1 t) (block0 V c 2 t) (block0 V c 3 t) (block0 V c 4 t)
        (fun h => absurd ((isFirst_iff t).mp h) (by omega)) ((isLater_iff t).mpr h1) (fun h => absurd ((isLast_iff t).mp h) (by omega)) _ _ _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7]; · iexact H7
      isplitl [H8]; · iexact H8
      iintro ⟨⟨H0, H1, H2, H3, H4⟩, H5, H6, H7, H8⟩
      iframe
      iexists _; iexact H8

/-- The definition the pipeline calls at point `t` is the body on the current buffers. -/
theorem row0 (t : Fin cfg0.N) : defs₀ (F := F) .tc cfg0.body (cfg0.bodyArgs t (cfg0.slots t)) = bodyAt0 t := by
  unfold defs₀; rw [Defs.onTc_tc]

/-- The pipeline rule's obligation on the first call's body. -/
theorem obligation0 (c : Dev nD) : BodyObligation (dat0 V c) (defs₀ (F := F)) Variants.none () Set.univ := fun t => by
  rw [bigSep_W0, bigSep_W0, row0]
  exact triple_restated (body0 V c t) rfl .rfl fun _ => .rfl

end Cert.KernelIdeal.Lga

end
-- ==== Proof.MapRegion.lean ====
/-
  The second call: each of its 16 points multiplies a block of queries by the matrix the first call formed, scales, and
  adds the bias row.
-/
module

public import proofs.«01_k».proof.Proof.ReduceRegion
public import proofs.«01_k».proof.Proof.Gen.KernelIdeal.Launch
public import proofs.«01_k».proof.Proof.Gen.KernelIdeal.Regions
public import proofs.«01_k».proof.Proof.Gen.KernelIdeal.Points

@[expose] public section

set_option maxRecDepth 16384

noncomputable section

namespace Cert.KernelIdeal.Lga

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs (F := F))

/-! ## One point -/

/-- A point stores the block of the result: the three inputs are read, and the result buffer holds `k1_pay1` of them. -/
theorem body_map (c : Dev nD) (i : grid1.Coords)
    (a1 : Memref sig .tc .vmem S16384x256 .fp8e4m3) (h1 : a1.IsWhole) (a2 : Memref sig .tc .vmem S256x384 .f32) (h2 : a2.IsWhole)
    (a3 : Memref sig .tc .vmem S1x256 .f32) (h3 : a3.IsWhole) (a4 : Memref sig .tc .vmem S16384x256 .f32) (h4 : a4.IsWhole)
    (q : Vec F S16384x256 .fp8e4m3) (b : Vec F S256x384 .f32) (bo : Vec F S1x256 .f32) (E : Set ℕ) (K : PUnit → sProp 𝕄) :
    iprop(own c a1 q ∗ own c a2 b ∗ own c a3 bo ∗ (∃ d, own c a4 d)
        ∗ (iprop(own c a1 q ∗ own c a2 b ∗ own c a3 bo ∗ own c a4 (k1_pay1 q b bo)) -∗ K ⟨⟩))
      ⊢ wp frame (wpE (defs₀ (F := F)) Variants.none c none) E (cc1_lga_map i a1 h1 a2 h2 a3 h3 a4 h4) K := by
  simp only [cc1_lga_map_eq_skeleton]; unfold cc1_lga_map_skel
  unfold own owns
  iintro ⟨⟨%f1, %e1, H1⟩, ⟨%f2, %e2, H2⟩, ⟨%f3, %e3, H3⟩, ⟨%d4, %f4, -, H4⟩, Hk⟩
  obtain rfl := h1.eq_unread e1; obtain rfl := h2.eq_unread e2; obtain rfl := h3.eq_unread e3
  sl_exec
  sl_step
  iapply Hk
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  iexists _; isplitr; swap; (· iexact H4)
  ipureintro
  rw [View.read_writes_full, View.readAt_full, View.readAt_full, View.readAt_full, e1, e2, e3]

/-! ## The pipeline's data -/

/-- Window `w`'s block at point `t`, read off its array as the call finds it. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data of the second call's pipeline. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => k1_pay1 (block1 V c 0 t) (block1 V c 1 t) (block1 V c 2 t)
  Φ _ := Pipeline.scopedRest (Ix := Unit) (Name := ℕ) (U := UR sig nD τ) (Lvl := ℕ) (Val := Elt F) spec1 c
  q _ := fullShare
  owed _ := 0

theorem dat1_A (c : Dev nD) (w : Fin cfg1.W) : (dat1 V c).A w = V c (Pipeline.arrRef spec1 w) := by dsimp only [dat1]
theorem after1_3 (c : Dev nD) (t : Fin cfg1.N) :
    (dat1 V c).after 3 t = k1_pay1 (block1 V c 0 t) (block1 V c 1 t) (block1 V c 2 t) := by dsimp only [dat1]
theorem after1_0 (c : Dev nD) (t : Fin cfg1.N) : (dat1 V c).after 0 t = block1 V c 0 t := by dsimp only [dat1]
theorem after1_1 (c : Dev nD) (t : Fin cfg1.N) : (dat1 V c).after 1 t = block1 V c 1 t := by dsimp only [dat1]
theorem after1_2 (c : Dev nD) (t : Fin cfg1.N) : (dat1 V c).after 2 t = block1 V c 2 t := by dsimp only [dat1]

/-! An input's buffer holds its block, fetched at this point or kept from an earlier one. -/

theorem before1_0 (c : Dev nD) (t : Fin cfg1.N) (d) : (dat1 V c).before 0 t d = block1 V c 0 t :=
  ((dat1 V c).before_in_eq_fetched 0 rfl (fun _ => rfl) (fun _ _ _ => rfl)
      (fun t => by rw [after1_0]; unfold Dat.blockOf block1; rw [dat1_A]; try rfl) t d).trans
    (by unfold Dat.fetched Dat.blockOf block1; rw [dat1_A]; try rfl)
theorem before1_1 (c : Dev nD) (t : Fin cfg1.N) (d) : (dat1 V c).before 1 t d = block1 V c 1 t :=
  ((dat1 V c).before_in_eq_fetched 1 rfl (fun _ => rfl) (fun _ _ _ => rfl)
      (fun t => by rw [after1_1]; unfold Dat.blockOf block1; rw [dat1_A]; try rfl) t d).trans
    (by unfold Dat.fetched Dat.blockOf block1; rw [dat1_A]; try rfl)
theorem before1_2 (c : Dev nD) (t : Fin cfg1.N) (d) : (dat1 V c).before 2 t d = block1 V c 2 t :=
  ((dat1 V c).before_in_eq_fetched 2 rfl (fun _ => rfl) (fun _ _ _ => rfl)
      (fun t => by rw [after1_2]; unfold Dat.blockOf block1; rw [dat1_A]; try rfl) t d).trans
    (by unfold Dat.fetched Dat.blockOf block1; rw [dat1_A]; try rfl)

/-! ## The body at every point -/

/-- What the body finds at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl]
  rw [after1_0, after1_1, after1_2, after1_3]
  iintro ⟨HΦ, Ho, ⟨%d0, H0⟩, ⟨%d1, H1⟩, ⟨%d2, H2⟩, ⟨%d3, H3⟩⟩
  iapply (body_map c (grid1.coords t) _ _ _ _ _ _ _ _ (block1 V c 0 t) (block1 V c 1 t) (block1 V c 2 t) Set.univ _)
  isplitl [H0]; · iexact H0
  isplitl [H1]; · iexact H1
  isplitl [H2]; · iexact H2
  isplitl [H3]; · iexists _; iexact H3
  iintro ⟨H0, H1, H2, H3⟩
  iframe

/-- The definition the pipeline calls at point `t` is the body on the current buffers. -/
theorem row1 (t : Fin cfg1.N) : defs₀ (F := F) .tc cfg1.body (cfg1.bodyArgs t (cfg1.slots t)) = bodyAt1 t := by
  unfold defs₀; rw [Defs.onTc_tc]

/-- The pipeline rule's obligation on the second call's body. -/
theorem obligation1 (c : Dev nD) : BodyObligation (dat1 V c) (defs₀ (F := F)) Variants.none () Set.univ := fun t => by
  rw [bigSep_W1, bigSep_W1, row1]
  exact triple_restated (body1 V c t) rfl .rfl fun _ => .rfl

end Cert.KernelIdeal.Lga

end
-- ==== Proof.Run.lean ====
/-
  The whole program: the host lines, then the two calls, and what the result buffer holds at the end.
-/
module

public import proofs.«01_k».proof.Proof.MapRegion
public import proofs.«01_k».proof.Proof.Gen.KernelIdeal.Launch
public import proofs.«01_k».proof.Proof.Gen.KernelIdeal.Regions
public import proofs.«01_k».proof.Proof.Gen.KernelIdeal.Points

public import Idealize.ShloMosaic.Lib.Pipeline.RegionsLoop

@[expose] public section

set_option maxRecDepth 16384

noncomputable section

namespace Cert.KernelIdeal.Lga

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- The buffers of core `c` once the first call has run: its four result arrays at what its write-backs made of them. -/
def B2 (c : Dev nD) : Valuation τ sig (Elt F) :=
  Function.update (Function.update (Function.update (Function.update (V1 m c)
    main_call0_v9_0 ((dat0 (fun c b => V1 m c b) c).arrAt 5 cfg0.N))
    main_call0_v9_1 ((dat0 (fun c b => V1 m c b) c).arrAt 6 cfg0.N))
    main_call0_v9_2 ((dat0 (fun c b => V1 m c b) c).arrAt 7 cfg0.N))
    main_call0_v9_3 ((dat0 (fun c b => V1 m c b) c).arrAt 8 cfg0.N)

/-- The buffers of core `c` once the second call has run too. -/
def B3 (c : Dev nD) : Valuation τ sig (Elt F) :=
  Function.update (B2 m c) main_v0 ((dat1 (fun c b => B2 m c b) c).arrAt 3 cfg1.N)

theorem B2_ne (c : Dev nD) (b : Ref sig .tc) (h0 : b ≠ main_call0_v9_0) (h1 : b ≠ main_call0_v9_1) (h2 : b ≠ main_call0_v9_2)
    (h3 : b ≠ main_call0_v9_3) : B2 m c b = V1 m c b := by
  unfold B2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

theorem B2_q (c : Dev nD) : B2 m c main_call0_v9_0 = (dat0 (fun c b => V1 m c b) c).arrAt 5 cfg0.N := by
  unfold B2
  rw [Function.update_of_ne (StableHlo.devRef_ne_of_ne (by decide)), Function.update_of_ne (StableHlo.devRef_ne_of_ne (by decide)),
    Function.update_of_ne (StableHlo.devRef_ne_of_ne (by decide)), Function.update_self]
theorem B2_acc (c : Dev nD) : B2 m c main_call0_v9_1 = (dat0 (fun c b => V1 m c b) c).arrAt 6 cfg0.N := by
  unfold B2
  rw [Function.update_of_ne (StableHlo.devRef_ne_of_ne (by decide)), Function.update_of_ne (StableHlo.devRef_ne_of_ne (by decide)),
    Function.update_self]
theorem B2_ks (c : Dev nD) : B2 m c main_call0_v9_2 = (dat0 (fun c b => V1 m c b) c).arrAt 7 cfg0.N := by
  unfold B2
  rw [Function.update_of_ne (StableHlo.devRef_ne_of_ne (by decide)), Function.update_self]
theorem B2_mat (c : Dev nD) : B2 m c main_call0_v9_3 = (dat0 (fun c b => V1 m c b) c).arrAt 8 cfg0.N := by
  unfold B2
  rw [Function.update_self]

theorem B3_ne (c : Dev nD) (b : Ref sig .tc) (h : b ≠ main_v0) : B3 m c b = B2 m c b := by
  unfold B3; rw [Function.update_of_ne (StableHlo.devRef_ne_of_ne h)]
theorem B3_out (c : Dev nD) : B3 m c main_v0 = (dat1 (fun c b => B2 m c b) c).arrAt 3 cfg1.N := by
  unfold B3; rw [Function.update_self]

attribute [irreducible] B2 B3

/-- No item writes an argument. -/
theorem B3_arg (c : Dev nD) (b : Ref sig .tc) (h : b ≠ main_v0) (h0 : b ≠ main_call0_v9_0) (h1 : b ≠ main_call0_v9_1)
    (h2 : b ≠ main_call0_v9_2) (h3 : b ≠ main_call0_v9_3) (hh : b ∉ hostOps0_W) : B3 m c b = m ((c : Thread nD τ).loc b) :=
  (B3_ne m c b h).trans <| (B2_ne m c b h0 h1 h2 h3).trans <| (V1_of m c b hh).trans rfl

/-! ## The two calls as segments -/

/-- The data of the two pipelines. -/
def pdats : (p : Fin 2) → (c : Dev nD) → Dat τ (Elt F) Unit ℕ (UR sig nD τ) ℕ (cfgs p) c
  | ⟨0, _⟩ => fun c => dat0 (fun c b => V1 m c b) c
  | ⟨1, _⟩ => fun c => dat1 (fun c b => B2 m c b) c

/-- Every array of the first call holds at its end what `B2` says. -/
theorem reduce_arrays (c : Dev nD) (w : Fin cfg0.W) : (pdats m 0 c).arrAt w cfg0.N = B2 m c (Pipeline.arrRef spec0 w) := by
  fin_cases w
  · exact ((dat0 (fun c b => V1 m c b) c).arrAt_in 0 rfl _).trans (B2_ne m c main_arg0 (by decide) (by decide) (by decide) (by decide)).symm
  · exact ((dat0 (fun c b => V1 m c b) c).arrAt_in 1 rfl _).trans (B2_ne m c main_call0_v1 (by decide) (by decide) (by decide) (by decide)).symm
  · exact ((dat0 (fun c b => V1 m c b) c).arrAt_in 2 rfl _).trans (B2_ne m c main_call0_v3 (by decide) (by decide) (by decide) (by decide)).symm
  · exact ((dat0 (fun c b => V1 m c b) c).arrAt_in 3 rfl _).trans (B2_ne m c main_call0_v5 (by decide) (by decide) (by decide) (by decide)).symm
  · exact ((dat0 (fun c b => V1 m c b) c).arrAt_in 4 rfl _).trans (B2_ne m c main_call0_v7 (by decide) (by decide) (by decide) (by decide)).symm
  · exact (B2_q m c).symm
  · exact (B2_acc m c).symm
  · exact (B2_ks m c).symm
  · exact (B2_mat m c).symm

/-- A buffer that is no array of the first call keeps its contents. -/
theorem reduce_others (c : Dev nD) (b : Ref sig .tc) (hb : b ∉ Finset.univ.image (Pipeline.arrRef spec0)) : B2 m c b = V1 m c b :=
  B2_ne m c b (fun h => hb (h ▸ Finset.mem_image.mpr ⟨5, Finset.mem_univ _, rfl⟩)) (fun h => hb (h ▸ Finset.mem_image.mpr ⟨6, Finset.mem_univ _, rfl⟩))
    (fun h => hb (h ▸ Finset.mem_image.mpr ⟨7, Finset.mem_univ _, rfl⟩)) (fun h => hb (h ▸ Finset.mem_image.mpr ⟨8, Finset.mem_univ _, rfl⟩))

/-- Every array of the second call holds at its end what `B3` says. -/
theorem map_arrays (c : Dev nD) (w : Fin cfg1.W) : (pdats m 1 c).arrAt w cfg1.N = B3 m c (Pipeline.arrRef spec1 w) := by
  fin_cases w
  · exact ((dat1 (fun c b => B2 m c b) c).arrAt_in 0 rfl _).trans (B3_ne m c main_call0_v9_0 (by decide)).symm
  · exact ((dat1 (fun c b => B2 m c b) c).arrAt_in 1 rfl _).trans (B3_ne m c main_call0_v9_3 (by decide)).symm
  · exact ((dat1 (fun c b => B2 m c b) c).arrAt_in 2 rfl _).trans (B3_ne m c main_call0_v8 (by decide)).symm
  · exact (B3_out m c).symm

/-- A buffer that is no array of the second call keeps its contents. -/
theorem map_others (c : Dev nD) (b : Ref sig .tc) (hb : b ∉ Finset.univ.image (Pipeline.arrRef spec1)) : B3 m c b = B2 m c b :=
  B3_ne m c b fun h => hb (h ▸ Finset.mem_image.mpr ⟨3, Finset.mem_univ _, rfl⟩)

/-- No core owes another anything, so no level is assigned. -/
abbrev noDues : GSem nD τ sig → Finset Unit := fun _ => ∅
abbrev noLevel : GSem nD τ sig → Unit → ℕ := fun _ _ => 0

/-- What a core keeps besides its buffers: it owes nothing. -/
def rest (c : Dev nD) : sProp 𝕄 := iprop(∃ W, owes (c : Thread nD τ) (0 : CellTallies nD τ sig Unit) W)

set_option backward.isDefEq.respectTransparency.types false in
/-- The first call over the core's buffers: entered by taking its arrays out of them, left by putting them back. -/
def reduceSeg : RegionSeg (pcfgs (F := F)) adm (pdats m) () defs₀ Variants.none noDues noLevel 0 where
  win := launch0.win.to₀
  block_pos := launch0.block_pos
  stage_whole := launch0.stage_whole
  K := PEmpty
  osem k := k.elim
  ho := Pipeline.OwnSemFacts.none _
  hbody c := (obligation0 (fun c b => V1 m c b) c).loose
  hwaits := Pipeline.hwaits_of_owed_zero _ _ _ _ noDues noLevel 0 fun _ _ => rfl
  pre c := iprop(StableHlo.held (c : Thread nD τ) (Pipeline.ucRefs τ sig) (V1 m c) ∗ rest c)
  post c := iprop(StableHlo.held (c : Thread nD τ) (Pipeline.ucRefs τ sig) (B2 m c) ∗ rest c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun _ => rfl
    unfold rest
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => B2 m c b) ((pdats m 0 c).arrAt · cfg0.N)
      (reduce_arrays m c)
      (fun b hb => reduce_others m c b hb)
    rw [← Pipeline.unscopedBufs_held (Ix := Unit) (Name := ℕ) (U := UR sig nD τ) (Lvl := ℕ) c (B2 m c)]
    unfold rest
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call over the core's buffers: entered by taking its arrays out of them, left by putting them back. -/
def mapSeg : RegionSeg (pcfgs (F := F)) adm (pdats m) () defs₀ Variants.none noDues noLevel 1 where
  win := launch1.win.to₀
  block_pos := launch1.block_pos
  stage_whole := launch1.stage_whole
  K := PEmpty
  osem k := k.elim
  ho := Pipeline.OwnSemFacts.none _
  hbody c := (obligation1 (fun c b => B2 m c b) c).loose
  hwaits := Pipeline.hwaits_of_owed_zero _ _ _ _ noDues noLevel 1 fun _ _ => rfl
  pre c := iprop(StableHlo.held (c : Thread nD τ) (Pipeline.ucRefs τ sig) (B2 m c) ∗ rest c)
  post c := iprop(StableHlo.held (c : Thread nD τ) (Pipeline.ucRefs τ sig) (B3 m c) ∗ rest c)
  X _ := BI.emp
  Y _ := BI.emp
  Z c := Pipeline.unscopedRest (Ix := Unit) (Name := ℕ) (U := UR sig nD τ) (Lvl := ℕ) spec1 c (fun b => B2 m c b)
  hentry c := by
    rw [Pipeline.ownSems0_none, ← Pipeline.unscopedBufs_held (Ix := Unit) (Name := ℕ) (U := UR sig nD τ) (Lvl := ℕ) c (B2 m c)]
    have hsplit := Pipeline.arrays_of_unscopedBufs (p := 1) (pcfgs (F := F)) adm (pdats m) launch1.win launch1.arr_whole c
      ((pdats m 1 c).share_full fun _ => rfl) (fun b => B2 m c b) fun _ => rfl
    unfold rest
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => B2 m c b) (fun b => B3 m c b) ((pdats m 1 c).arrAt · cfg1.N)
      (map_arrays m c)
      (fun b hb => map_others m c b hb)
    rw [← Pipeline.unscopedBufs_held (Ix := Unit) (Name := ℕ) (U := UR sig nD τ) (Lvl := ℕ) c (B3 m c)]
    unfold rest
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- What every run ends in: the result buffer at `B3`, every argument as launched, every semaphore at zero. -/
def ends (r : PUnit × MemSt nD τ sig (Elt F)) : Prop :=
  (∀ c : Dev nD, r.2.mem ((c : Thread nD τ).loc main_v0) = B3 m c main_v0
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))
  ∧ r.2.sem = fun _ => 0

set_option backward.isDefEq.respectTransparency.types false in
/-- Every weakly fair run of the program from memory `m` with zero counters ends, and so. -/
theorem run : θ_run defs (onTc (τ := τ) (main (F := F))) ⟨m, fun _ => 0, ρ⟩ (ends m) := by
  refine Pipeline.θ_run_regions_kit_dev_sems (pcfgs (F := F)) adm (pdats m) () cellOf_inj (emb₁ : Emb (UR sig nD τ) 𝕄) defs₀ Variants.none noDues noLevel m ρ main
    (segs m Variants.none noDues noLevel (fun _ => rest) () (pdats m) (reduceSeg m) (mapSeg m))
    (fun c Q => by
      rewrite [main_chain c, Seg.run_eq_chain,
        show (segs m Variants.none noDues noLevel (fun _ => rest) () (pdats m) (reduceSeg m) (mapSeg m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (B3 m c))
    (hch := fun c => ⟨.rfl, .rfl, .rfl, .rfl⟩)
    (hinit := ?_)
    (QY := fun c s => s.mem ((c : Thread nD τ).loc main_v0) = B3 m c main_v0
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach noDues noLevel fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    unfold rest
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (B3 m c) s') $$ [Hh HSI]
    · isplitl [Hh] <;> iassumption
    icases Hr with ⟨%h, HSI⟩
    imodintro
    isplitr
    · ipureintro
      have at_ : ∀ b : Ref sig .tc, (Proc.devRef (τ := τ) .tc b).isScoped = false → s'.mem.mem ((c : Thread nD τ).loc b) = B3 m c b := fun b hb =>
        h (Proc.devRef .tc b) (Finset.mem_filter.mpr ⟨StableHlo.devRef_mem_tcRefs b, by rw [hb]; exact Bool.false_ne_true⟩)
      exact ⟨at_ main_v0 rfl,
        (at_ main_arg0 rfl).trans (B3_arg m c main_arg0 (by decide) (by decide) (by decide) (by decide) (by decide) (by decide)),
        (at_ main_arg1 rfl).trans (B3_arg m c main_arg1 (by decide) (by decide) (by decide) (by decide) (by decide) (by decide)),
        (at_ main_arg2 rfl).trans (B3_arg m c main_arg2 (by decide) (by decide) (by decide) (by decide) (by decide) (by decide)),
        (at_ main_arg3 rfl).trans (B3_arg m c main_arg3 (by decide) (by decide) (by decide) (by decide) (by decide) (by decide)),
        (at_ main_arg4 rfl).trans (B3_arg m c main_arg4 (by decide) (by decide) (by decide) (by decide) (by decide) (by decide)),
        (at_ main_arg5 rfl).trans (B3_arg m c main_arg5 (by decide) (by decide) (by decide) (by decide) (by decide) (by decide))⟩
    · iexact HSI

end Cert.KernelIdeal.Lga

end
-- ==== Proof.Blocks.lean ====
/-
  Where the blocks of both calls lie in their arrays, and the arrays after each call, element by element.
-/
module

public import Idealize.ShloMosaic.Lib.Pipeline.Value
public import Idealize.ShloMosaic.Lib.Pointwise
public import proofs.«01_k».proof.Proof.ReduceRegion
public import proofs.«01_k».proof.Proof.MapRegion

@[expose] public section

set_option maxRecDepth 16384

noncomputable section

namespace Cert.KernelIdeal.Lga

open Cert.KernelIdeal Cert.KernelIdeal.Gen
open Idealize.ShloMosaic Idealize.ShloMosaic.TcCoe
open Idealize.SL Idealize.SL.Sem
open Idealize.ShloMosaic.Pipeline (Dat Window)

variable {F : FTy → Type} [FloatOps F]

/-- Row `r` of block `t` is row `16384 t + r` of the whole. -/
def rowOf (t : Fin 16) (r : Fin 16384) : Fin 262144 := ⟨t.val * 16384 + r.val, by omega⟩

/-! ## Where each block lies -/

/-- The blocks of rows move down one block a point; every other window stays at its array's start. -/
theorem index0_0 : ∀ t : Fin cfg0.N, win0_0.index t 0 = t.val ∧ win0_0.index t 1 = 0 := by decide +kernel
theorem index0_5 : ∀ t : Fin cfg0.N, win0_5.index t 0 = t.val ∧ win0_5.index t 1 = 0 := by decide +kernel
theorem index1_0 : ∀ t : Fin cfg1.N, win1_0.index t 0 = t.val ∧ win1_0.index t 1 = 0 := by decide +kernel
theorem index1_3 : ∀ t : Fin cfg1.N, win1_3.index t 0 = t.val ∧ win1_3.index t 1 = 0 := by decide +kernel

/-- An element of a block of rows lies in the array at the block's first row plus its own. -/
theorem emb_rows {G : Pipeline.Grid} (w : Window sig G) (t : Fin G.N) (y : (w.xblock (G.coords t)).Idx) (hk : w.kind = .blocked)
    (a : Fin w.shape.rank) (size val : ℕ) (hs : w.size a = size) (hi : w.index t a = val) :
    ((w.rect t).emb y a : ℕ) = val * size + y a := by
  rw [Window.rect_emb_val w t y a hk, hs, hi]

theorem emb0_0 (t : Fin cfg0.N) (r : Fin 16384) (c : Fin 256) :
    ((cfg0.win 0).blk t).view.emb (ix2 r c) = ix2 (rowOf t r) c :=
  funext fun a => Fin.ext <| by
    fin_cases a
    · exact emb_rows win0_0 t (ix2 r c) rfl 0 16384 t.val rfl (index0_0 t).1
    · exact (emb_rows win0_0 t (ix2 r c) rfl 1 256 0 rfl (index0_0 t).2).trans (by rw [Nat.zero_mul, Nat.zero_add]; rfl)
theorem emb0_5 (t : Fin cfg0.N) (r : Fin 16384) (c : Fin 256) :
    ((cfg0.win 5).blk t).view.emb (ix2 r c) = ix2 (rowOf t r) c :=
  funext fun a => Fin.ext <| by
    fin_cases a
    · exact emb_rows win0_5 t (ix2 r c) rfl 0 16384 t.val rfl (index0_5 t).1
    · exact (emb_rows win0_5 t (ix2 r c) rfl 1 256 0 rfl (index0_5 t).2).trans (by rw [Nat.zero_mul, Nat.zero_add]; rfl)
theorem emb1_0 (t : Fin cfg1.N) (r : Fin 16384) (c : Fin 256) :
    ((cfg1.win 0).blk t).view.emb (ix2 r c) = ix2 (rowOf t r) c :=
  funext fun a => Fin.ext <| by
    fin_cases a
    · exact emb_rows win1_0 t (ix2 r c) rfl 0 16384 t.val rfl (index1_0 t).1
    · exact (emb_rows win1_0 t (ix2 r c) rfl 1 256 0 rfl (index1_0 t).2).trans (by rw [Nat.zero_mul, Nat.zero_add]; rfl)
theorem emb1_3 (t : Fin cfg1.N) (r : Fin 16384) (c : Fin 256) :
    ((cfg1.win 3).blk t).view.emb (ix2 r c) = ix2 (rowOf t r) c :=
  funext fun a => Fin.ext <| by
    fin_cases a
    · exact emb_rows win1_3 t (ix2 r c) rfl 0 16384 t.val rfl (index1_3 t).1
    · exact (emb_rows win1_3 t (ix2 r c) rfl 1 256 0 rfl (index1_3 t).2).trans (by rw [Nat.zero_mul, Nat.zero_add]; rfl)

/-! A block that is its whole array: an element lies where it is. -/

theorem emb0_1 (t : Fin cfg0.N) (y : S256x256.Idx) : ((cfg0.win 1).blk t).view.emb y = y :=
  funext fun a => Fin.ext (Window.rect_emb_val_of_index_zero win0_1 t a (by fin_cases a <;> rfl) y)
theorem emb0_2 (t : Fin cfg0.N) (y : S256x256.Idx) : ((cfg0.win 2).blk t).view.emb y = y :=
  funext fun a => Fin.ext (Window.rect_emb_val_of_index_zero win0_2 t a (by fin_cases a <;> rfl) y)
theorem emb0_3 (t : Fin cfg0.N) (y : S256x256.Idx) : ((cfg0.win 3).blk t).view.emb y = y :=
  funext fun a => Fin.ext (Window.rect_emb_val_of_index_zero win0_3 t a (by fin_cases a <;> rfl) y)
theorem emb0_4 (t : Fin cfg0.N) (y : S256x256.Idx) : ((cfg0.win 4).blk t).view.emb y = y :=
  funext fun a => Fin.ext (Window.rect_emb_val_of_index_zero win0_4 t a (by fin_cases a <;> rfl) y)
theorem emb0_8 (t : Fin cfg0.N) (y : S256x384.Idx) : ((cfg0.win 8).blk t).view.emb y = y :=
  funext fun a => Fin.ext (Window.rect_emb_val_of_index_zero win0_8 t a (by fin_cases a <;> rfl) y)
theorem emb1_1 (t : Fin cfg1.N) (y : S256x384.Idx) : ((cfg1.win 1).blk t).view.emb y = y :=
  funext fun a => Fin.ext (Window.rect_emb_val_of_index_zero win1_1 t a (by fin_cases a <;> rfl) y)
theorem emb1_2 (t : Fin cfg1.N) (y : S1x256.Idx) : ((cfg1.win 2).blk t).view.emb y = y :=
  funext fun a => Fin.ext (Window.rect_emb_val_of_index_zero win1_2 t a (by fin_cases a <;> rfl) y)

/-! ## What the blocks hold -/

variable (V : Bufs (F := F))

/-- The block of rows at point `t`. -/
theorem block0_0 (c : Dev nD) (t : Fin cfg0.N) (r : Fin 16384) (i : Fin 256) :
    block0 V c 0 t (ix2 r i) = V c main_arg0 (ix2 (rowOf t r) i) := congrArg (V c main_arg0) (emb0_0 t r i)
/-- The four weights, whole at every point. -/
theorem block0_1 (c : Dev nD) (t : Fin cfg0.N) (y : S256x256.Idx) : block0 V c 1 t y = V c main_call0_v1 y :=
  congrArg (V c main_call0_v1) (emb0_1 t y)
theorem block0_2 (c : Dev nD) (t : Fin cfg0.N) (y : S256x256.Idx) : block0 V c 2 t y = V c main_call0_v3 y :=
  congrArg (V c main_call0_v3) (emb0_2 t y)
theorem block0_3 (c : Dev nD) (t : Fin cfg0.N) (y : S256x256.Idx) : block0 V c 3 t y = V c main_call0_v5 y :=
  congrArg (V c main_call0_v5) (emb0_3 t y)
theorem block0_4 (c : Dev nD) (t : Fin cfg0.N) (y : S256x256.Idx) : block0 V c 4 t y = V c main_call0_v7 y :=
  congrArg (V c main_call0_v7) (emb0_4 t y)
/-- The second call's block of queries, its matrix and its bias row. -/
theorem block1_0 (c : Dev nD) (t : Fin cfg1.N) (r : Fin 16384) (i : Fin 256) :
    block1 V c 0 t (ix2 r i) = V c main_call0_v9_0 (ix2 (rowOf t r) i) := congrArg (V c main_call0_v9_0) (emb1_0 t r i)
theorem block1_1 (c : Dev nD) (t : Fin cfg1.N) (y : S256x384.Idx) : block1 V c 1 t y = V c main_call0_v9_3 y :=
  congrArg (V c main_call0_v9_3) (emb1_1 t y)
theorem block1_2 (c : Dev nD) (t : Fin cfg1.N) (y : S1x256.Idx) : block1 V c 2 t y = V c main_call0_v8 y :=
  congrArg (V c main_call0_v8) (emb1_2 t y)

/-! ## The arrays after the calls -/

/-- Distinct points write back distinct blocks of queries, and of the result. -/
theorem apart0_5 (t t' : Fin cfg0.N) (_ : (cfg0.win 5).flush t = true) (_ : (cfg0.win 5).flush t' = true) (ne : t ≠ t') :
    Disjoint ((cfg0.win 5).blk t).view.set ((cfg0.win 5).blk t').view.set :=
  (cfg0.win 5).disjoint_blk fun h => ne (Fin.ext ((index0_5 t).1.symm.trans ((congrFun h 0).trans (index0_5 t').1)))
theorem apart1_3 (t t' : Fin cfg1.N) (_ : (cfg1.win 3).flush t = true) (_ : (cfg1.win 3).flush t' = true) (ne : t ≠ t') :
    Disjoint ((cfg1.win 3).blk t).view.set ((cfg1.win 3).blk t').view.set :=
  (cfg1.win 3).disjoint_blk fun h => ne (Fin.ext ((index1_3 t).1.symm.trans ((congrFun h 0).trans (index1_3 t').1)))
/-- Only the last point writes the matrix back. -/
theorem apart0_8 (t t' : Fin cfg0.N) (f : (cfg0.win 8).flush t = true) (f' : (cfg0.win 8).flush t' = true) (ne : t ≠ t') :
    Disjoint ((cfg0.win 8).blk t).view.set ((cfg0.win 8).blk t').view.set := by
  have last (u : Fin cfg0.N) (h : (cfg0.win 8).flush u = true) : u.val = 15 := by
    by_contra e
    rw [kept0_8 u e] at h
    exact Bool.false_ne_true h
  exact absurd (Fin.ext ((last t f).trans (last t' f').symm)) ne

theorem flush0_5 : ∀ t : Fin cfg0.N, (cfg0.win 5).flush t = true := by decide +kernel
theorem flush1_3 : ∀ t : Fin cfg1.N, (cfg1.win 3).flush t = true := by decide +kernel

/-- The last point of the first call. -/
def lastPoint : Fin cfg0.N := ⟨15, by decide⟩
theorem flush0_8 : (cfg0.win 8).flush lastPoint = true := by decide +kernel

/-- The queries after the first call. -/
theorem queries_at (c : Dev nD) (t : Fin cfg0.N) (r : Fin 16384) (i : Fin 256) :
    (dat0 V c).arrAt 5 cfg0.N (ix2 (rowOf t r) i) = k0_pay3 (block0 V c 0 t) (block0 V c 1 t) (ix2 r i) := by
  have h := (dat0 V c).arrAt_emb_eq_flushed 5 apart0_5 t (flush0_5 t) (ix2 r i)
  rw [emb0_5] at h
  refine h.trans ?_
  show (dat0 V c).after 5 t (ix2 r i) = _
  rw [after0_5]

/-- The matrix after the first call. -/
theorem matrix_at (c : Dev nD) (y : S256x384.Idx) :
    (dat0 V c).arrAt 8 cfg0.N y = k0_pay1 (block0 V c 3 lastPoint) (block0 V c 4 lastPoint) (sums V c 15 lastPoint.isLt).1
      (sums V c 15 lastPoint.isLt).2 y := by
  have h := (dat0 V c).arrAt_emb_eq_flushed 8 apart0_8 lastPoint flush0_8 y
  rw [emb0_8] at h
  refine h.trans ?_
  show (dat0 V c).after 8 lastPoint y = _
  rw [after0_8]
  rfl

/-- The result after the second call. -/
theorem result_at (c : Dev nD) (t : Fin cfg1.N) (r : Fin 16384) (o : Fin 256) :
    (dat1 V c).arrAt 3 cfg1.N (ix2 (rowOf t r) o) = k1_pay1 (block1 V c 0 t) (block1 V c 1 t) (block1 V c 2 t) (ix2 r o) := by
  have h := (dat1 V c).arrAt_emb_eq_flushed 3 apart1_3 t (flush1_3 t) (ix2 r o)
  rw [emb1_3] at h
  refine h.trans ?_
  show (dat1 V c).after 3 t (ix2 r o) = _
  rw [after1_3]

end Cert.KernelIdeal.Lga

end
-- ==== Proof.Algebra.lean ====
/-
  The mathematics of the claim, with no program in it: the feature map both programs apply, and the equality of the two
  orders in which they contract keys, values and the output projection.
-/
module

public import Idealize.ShloMosaic.PureOps.Ideal
public import Idealize.ShloMosaic.Lib.IdealHost

@[expose] public section

noncomputable section

namespace Cert.KernelIdeal.Lga

open Idealize.ShloMosaic

/-- The feature map of queries and keys: `y + 1` above zero, the exponential elsewhere. -/
def feat (y : EReal) : EReal := if 0 < y then y + 1 else Ideal.exp y

/-- The exponential at the real numbers and at the two ends. -/
theorem exp_ends (r : ℝ) : Ideal.exp ⊥ = 0 ∧ Ideal.exp (r : EReal) = (Real.exp r : EReal) ∧ Ideal.exp ⊤ = ⊤ :=
  ⟨rfl, rfl, rfl⟩

/-- The exponential of an extended real is never negative. -/
theorem exp_nonneg' (y : EReal) : 0 ≤ Ideal.exp y := by
  induction y with
  | bot => exact (exp_ends 0).1.ge
  | coe r => exact (exp_ends r).2.1 ▸ EReal.coe_nonneg.mpr (Real.exp_pos r).le
  | top => exact (exp_ends 0).2.2 ▸ le_top

/-- The feature map is never negative. -/
theorem feat_nonneg (y : EReal) : 0 ≤ feat y := by
  unfold feat
  split
  · rename_i h
    exact add_nonneg h.le zero_le_one
  · exact exp_nonneg' y

/-- The exponential less one, with the one added back, is the exponential: at every extended real. -/
theorem exp_sub_one_add_one (y : EReal) : Ideal.exp y - 1 + 1 = Ideal.exp y := by
  induction y with
  | bot =>
    rw [(exp_ends 0).1, zero_sub, ← EReal.coe_one, ← EReal.coe_neg, ← EReal.coe_add]
    simp
  | coe r =>
    rw [(exp_ends r).2.1, ← EReal.coe_one, ← EReal.coe_sub, ← EReal.coe_add, sub_add_cancel]
  | top =>
    rw [(exp_ends 0).2.2, ← EReal.coe_one, EReal.top_sub_coe, EReal.top_add_coe]

/-- ELU plus one, as the reference spells it with a guarded exponential, is the feature map. -/
theorem elu_add_one (y : EReal) :
    (if 0 < y then y else Ideal.exp (if 0 < y then 0 else y) - 1) + 1 = feat y := by
  unfold feat
  split
  · rfl
  · rw [exp_sub_one_add_one]

section Contraction

variable {ι ν κ γ : Type} [Fintype ι] [Fintype ν] [Fintype κ] [Fintype γ]

/-- A sum of reals, as extended reals, is the real sum. -/
theorem coe_sum {α : Type} (s : Finset α) (f : α → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A nonnegative factor against the sum of nonnegative numbers, when the product is not infinite: the factor is zero, or
    every summand is, or all of them are reals. -/
theorem bounded_cases (q : EReal) (k : ν → EReal) (hq : 0 ≤ q) (hk : ∀ n, 0 ≤ k n) (h : q * ∑ n, k n ≠ ⊤) :
    q = 0 ∨ (∀ n, k n = 0) ∨ ∃ (a : ℝ) (b : ν → ℝ), q = a ∧ ∀ n, k n = b n := by
  by_cases q0 : q = 0
  · exact .inl q0
  by_cases k0 : ∀ n, k n = 0
  · exact .inr (.inl k0)
  have qpos : 0 < q := lt_of_le_of_ne hq (Ne.symm q0)
  obtain ⟨m, hm⟩ := not_forall.mp k0
  have mpos : 0 < k m := lt_of_le_of_ne (hk m) (Ne.symm hm)
  have le (n : ν) : k n ≤ ∑ n, k n := Finset.single_le_sum (fun i _ => hk i) (Finset.mem_univ n)
  have spos : 0 < ∑ n, k n := lt_of_lt_of_le mpos (le m)
  have qtop : q ≠ ⊤ := fun e => h (by rw [e, EReal.top_mul_of_pos spos])
  have stop : ∑ n, k n ≠ ⊤ := fun e => h (by rw [e, EReal.mul_top_of_pos qpos])
  have ktop (n : ν) : k n ≠ ⊤ := fun e => stop (top_le_iff.mp (e ▸ le n))
  have nb {y : EReal} (hy : 0 ≤ y) : y ≠ ⊥ := fun e => by simp [e] at hy
  exact .inr (.inr ⟨q.toReal, fun n => (k n).toReal, (EReal.coe_toReal qtop (nb hq)).symm,
    fun n => (EReal.coe_toReal (ktop n) (nb (hk n))).symm⟩)

/-- One feature's part of both programs' numerators, when its part of the normaliser is not infinite: a real factor times
    a real combination of the rows. -/
theorem feature_part (q : EReal) (k : ν → EReal) (hq : 0 ≤ q) (hk : ∀ n, 0 ≤ k n) (h : q * ∑ n, k n ≠ ⊤) :
    ∃ (a : ℝ) (b : ν → ℝ), (∀ v : ν → ℝ, q * ∑ n, k n * (v n : EReal) = ((a * ∑ n, b n * v n : ℝ) : EReal))
      ∧ ∀ (x : ν → κ → ℝ) (w : κ → ℝ), q * ∑ c, (∑ n, k n * (x n c : EReal)) * (w c : EReal)
          = ((a * ∑ c, (∑ n, b n * x n c) * w c : ℝ) : EReal) := by
  rcases bounded_cases q k hq hk h with q0 | k0 | ⟨a, b, qa, kb⟩
  · exact ⟨0, 0, by simp [q0], by simp [q0]⟩
  · exact ⟨0, 0, by simp [k0], by simp [k0]⟩
  · refine ⟨a, b, fun v => ?_, fun x w => ?_⟩
    · simp only [qa, kb, ← EReal.coe_mul, coe_sum]
    · simp only [qa, kb, ← EReal.coe_mul, coe_sum]

/-- Over the reals a common factor and the output weights may be applied in either order. -/
theorem scale_real (a : ι → ℝ) (A : ι → γ → ℝ) (wo : γ → ℝ) (z : ℝ) :
    ∑ j, ((∑ i, a i * A i j) * z) * wo j = (∑ i, a i * ∑ j, A i j * wo j) * z := by
  calc ∑ j, ((∑ i, a i * A i j) * z) * wo j = ∑ j, ∑ i, a i * (A i j * wo j) * z :=
        Finset.sum_congr rfl fun j _ => by
          rw [Finset.sum_mul, Finset.sum_mul]
          exact Finset.sum_congr rfl fun i _ => by ring
    _ = ∑ i, ∑ j, a i * (A i j * wo j) * z := Finset.sum_comm
    _ = (∑ i, a i * ∑ j, A i j * wo j) * z := by
        rw [Finset.sum_mul]
        exact Finset.sum_congr rfl fun i _ => by rw [Finset.mul_sum, Finset.sum_mul]

/-- Over the reals the two orders of contraction agree. -/
theorem contract_real (a : ι → ℝ) (b : ι → ν → ℝ) (x : ν → κ → ℝ) (wv : γ → κ → ℝ) (wo : γ → ℝ) (z : ℝ) :
    ∑ j, ((∑ i, a i * ∑ n, b i n * ∑ c, x n c * wv j c) * z) * wo j
      = (∑ i, a i * ∑ c, (∑ n, b i n * x n c) * ∑ j, wv j c * wo j) * z := by
  have inner (i : ι) (j : γ) : ∑ n, b i n * ∑ c, x n c * wv j c = ∑ c, (∑ n, b i n * x n c) * wv j c := by
    simp only [Finset.mul_sum, Finset.sum_mul, mul_assoc]
    exact Finset.sum_comm
  have outer (i : ι) : ∑ c, (∑ n, b i n * x n c) * ∑ j, wv j c * wo j
      = ∑ j, (∑ c, (∑ n, b i n * x n c) * wv j c) * wo j := by
    simp only [Finset.mul_sum (s := (Finset.univ : Finset γ)), Finset.sum_mul (s := (Finset.univ : Finset κ)), mul_assoc]
    exact Finset.sum_comm
  simp only [inner, outer]
  exact scale_real a (fun i j => ∑ c, (∑ n, b i n * x n c) * wv j c) wo z

/-- THE TWO ORDERS OF CONTRACTION AGREE: the reference projects the normalised sums, feature by feature of the values,
    through the output weights; the kernel folds the value and output weights together first and normalises last. Queries
    and keys are any nonnegative extended reals, the rows and the two folded weights are reals, and the normaliser is zero
    where the weight it divides by is infinite and a real elsewhere. -/
theorem contract (q : ι → EReal) (k : ν → ι → EReal) (x : ν → κ → ℝ) (wv : γ → κ → ℝ) (wo : γ → ℝ) (z : EReal)
    (hq : ∀ i, 0 ≤ q i) (hk : ∀ n i, 0 ≤ k n i) (z0 : ∑ i, q i * ∑ n, k n i = ⊤ → z = 0)
    (zr : ∑ i, q i * ∑ n, k n i ≠ ⊤ → ∃ r : ℝ, z = r) :
    ∑ j, ((∑ i, q i * ∑ n, k n i * ∑ c, (x n c : EReal) * (wv j c : EReal)) * z) * (wo j : EReal)
      = (∑ i, q i * ∑ c, (∑ n, k n i * (x n c : EReal)) * ∑ j, (wv j c : EReal) * (wo j : EReal)) * z := by
  by_cases top : ∑ i, q i * ∑ n, k n i = ⊤
  · simp [z0 top]
  obtain ⟨r, hr⟩ := zr top
  have pos (i : ι) : 0 ≤ q i * ∑ n, k n i := mul_nonneg (hq i) (Finset.sum_nonneg fun n _ => hk n i)
  have part (i : ι) : q i * ∑ n, k n i ≠ ⊤ := fun e =>
    top (top_le_iff.mp (e ▸ Finset.single_le_sum (f := fun i => q i * ∑ n, k n i) (fun i _ => pos i) (Finset.mem_univ i)))
  choose a b hv hx using fun i => feature_part (κ := κ) (q i) (fun n => k n i) (hq i) (fun n => hk n i) (part i)
  simp only [← EReal.coe_mul, coe_sum, hv, hx, hr]
  exact congrArg _ (contract_real a b x wv wo r)

end Contraction

/-- The normaliser `1 / max s ε` for a positive real `ε`: zero at an infinite `s`, a real number below it. -/
theorem norm_cases (s : EReal) (ε : ℝ) (hε : 0 < ε) :
    (s = ⊤ → Ideal.div 1 (max s ε) = 0) ∧ (s ≠ ⊤ → ∃ r : ℝ, Ideal.div 1 (max s ε) = r) := by
  constructor
  · rintro rfl
    simp [Ideal.div]
  · intro hs
    have lt : max s (ε : EReal) < ⊤ := max_lt (lt_top_iff_ne_top.mpr hs) (EReal.coe_lt_top ε)
    have pos : (0 : EReal) < max s ε := lt_of_lt_of_le (EReal.coe_pos.mpr hε) (le_max_right _ _)
    obtain ⟨m, hm⟩ : ∃ m : ℝ, max s (ε : EReal) = m := ⟨_, (EReal.coe_toReal lt.ne pos.ne_bot).symm⟩
    have m0 : m ≠ 0 := fun e => by rw [hm, e] at pos; exact lt_irrefl _ pos
    exact ⟨1 * m⁻¹, by rw [hm]; simp [Ideal.div, m0, EReal.coe_inv]⟩

/-- The small number that keeps the normaliser's divisor from zero. -/
abbrev tiny : EReal := Ideal.ofBits FTy.f32 0x358637BD#32

/-- It is a positive real. -/
theorem tiny_pos : ∃ ε : ℝ, 0 < ε ∧ tiny = ε := by
  refine ⟨8796093 * 2 ^ (-43 : ℤ), by positivity, ?_⟩
  have sign : ¬ BitVec.extractLsb' 31 1 0x358637BD#32 = 1#1 := by decide
  have exponent : (BitVec.extractLsb' 23 8 0x358637BD#32).toNat = 107 := by decide
  have fraction : (BitVec.extractLsb' 0 23 0x358637BD#32).toNat = 407485 := by decide
  simp only [tiny, Ideal.ofBits, Ideal.ieee, exponent, fraction]
  norm_num [sign]

/-- Features: the feature map of each row against each row of the weights. -/
def features {ν : Type} (x : ν → Fin 256 → EReal) (w : Fin 256 → Fin 256 → EReal) (n : ν) (i : Fin 256) : EReal :=
  feat (∑ c, x n c * w i c)

/-- Attention as the reference orders it: at row `n` and output `o`. -/
def attention {ν : Type} [Fintype ν] (x : ν → Fin 256 → EReal) (wq wk wv wo : Fin 256 → Fin 256 → EReal) (bo : Fin 256 → EReal)
    (n : ν) (o : Fin 256) : EReal :=
  ∑ j, ((∑ i, features x wq n i * ∑ r, features x wk r i * ∑ c, x r c * wv j c)
      * Ideal.div 1 (max (∑ i, features x wq n i * ∑ r, features x wk r i) tiny)) * wo o j + bo o

/-- Attention as the kernel orders it: the value and output weights folded together, the normaliser applied last. -/
def foldedAttention {ν : Type} [Fintype ν] (x : ν → Fin 256 → EReal) (wq wk wv wo : Fin 256 → Fin 256 → EReal) (bo : Fin 256 → EReal)
    (n : ν) (o : Fin 256) : EReal :=
  (∑ i, features x wq n i * ∑ c, (∑ r, features x wk r i * x r c) * ∑ j, wv j c * wo o j)
      * Ideal.div 1 (max (∑ i, features x wq n i * ∑ r, features x wk r i) tiny) + bo o

/-- THE TWO ORDERS AGREE when the rows, the value weights and the output weights are finite. -/
theorem folded_eq {ν : Type} [Fintype ν] (x : ν → Fin 256 → EReal) (wq wk wv wo : Fin 256 → Fin 256 → EReal) (bo : Fin 256 → EReal)
    (hx : ∀ n c, ∃ r : ℝ, x n c = r) (hv : ∀ j c, ∃ r : ℝ, wv j c = r) (ho : ∀ o j, ∃ r : ℝ, wo o j = r) (n : ν) (o : Fin 256) :
    foldedAttention x wq wk wv wo bo n o = attention x wq wk wv wo bo n o := by
  obtain ⟨ε, pos, he⟩ := tiny_pos
  obtain ⟨z0, zr⟩ := norm_cases (∑ i, features x wq n i * ∑ r, features x wk r i) ε pos
  have pq (i) : 0 ≤ features x wq n i := feat_nonneg _
  have pk (r i) : 0 ≤ features x wk r i := feat_nonneg _
  unfold foldedAttention attention
  rw [he]
  generalize features x wq n = q at *
  generalize features x wk = k at *
  choose x' hx using hx
  choose v' hv using hv
  choose o' ho using ho
  simp only [hx, hv, ho]
  exact congrArg (· + bo o) (contract q k x' v' (o' o) _ pq pk z0 zr).symm

end Cert.KernelIdeal.Lga

end
-- ==== Proof.Values.lean ====
/-
  What the two bodies compute, at an index, over the extended reals.
-/
module

public import Idealize.ShloMosaic.Lib.Pointwise
public import proofs.«01_k».proof.Proof.Algebra
public import proofs.«01_k».proof.Proof.Gen.KernelIdeal.Skeleton

@[expose] public section

noncomputable section

namespace Cert.KernelIdeal.Lga

open Cert.KernelIdeal Cert.KernelIdeal.Gen
open Idealize.ShloMosaic

/-- An entry of a block's keys: the feature map of a row of the block against a column of the key weights. -/
theorem k0_pay4_apply (x : Vec Ideal S16384x256 .f32) (w : Vec Ideal S256x256 .bf16) (r : Fin 16384) (i : Fin 256) :
    k0_pay4 x w (ix2 r i) = feat (∑ c : Fin 256, x (ix2 r c) * w (ix2 c i)) := by
  pointwise [k0_pay4, k0_pay2]
  rfl

/-- An entry of a block's queries: the same, against the query weights. -/
theorem k0_pay3_apply (x : Vec Ideal S16384x256 .f32) (w : Vec Ideal S256x256 .bf16) (r : Fin 16384) (i : Fin 256) :
    k0_pay3 x w (ix2 r i) = feat (∑ c : Fin 256, x (ix2 r c) * w (ix2 c i)) := by
  pointwise [k0_pay3, k0_pay2]
  rfl

/-- A block's product of keys and rows: a sum over the rows of the block. -/
theorem k0_pay5_apply (x : Vec Ideal S16384x256 .f32) (w : Vec Ideal S256x256 .bf16) (i c : Fin 256) :
    k0_pay5 x w (ix2 i c) = ∑ r : Fin 16384, k0_pay4 x w (ix2 r i) * x (ix2 r c) := by
  pointwise [k0_pay5, k0_pay2]

/-- A block's key sums are kept in eight parts: part `s` sums the rows whose number leaves `s` on division by eight. -/
theorem k0_pay6_apply (x : Vec Ideal S16384x256 .f32) (w : Vec Ideal S256x256 .bf16) (s : Fin 8) (i : Fin 256) :
    k0_pay6 x w (ix2 s i) = ∑ a : Fin 2048, k0_pay4 x w (ix2 ⟨a.val * 8 + s.val, by omega⟩ i) := by
  pointwise [k0_pay6]

/-- The running product with a block's added. -/
theorem k0_pay7_apply (x : Vec Ideal S16384x256 .f32) (w : Vec Ideal S256x256 .bf16) (a : Vec Ideal S256x256 .f32) (i c : Fin 256) :
    k0_pay7 x w a (ix2 i c) = a (ix2 i c) + k0_pay5 x w (ix2 i c) := by
  pointwise [k0_pay7]

/-- The running key sums with a block's added. -/
theorem k0_pay8_apply (x : Vec Ideal S16384x256 .f32) (w : Vec Ideal S256x256 .bf16) (k : Vec Ideal S8x256 .f32) (s : Fin 8) (i : Fin 256) :
    k0_pay8 x w k (ix2 s i) = k (ix2 s i) + k0_pay6 x w (ix2 s i) := by
  pointwise [k0_pay8]

/-- The left part of the matrix the first call forms: the product of keys and rows through the two weights folded together. -/
theorem k0_pay1_left (wv wo : Vec Ideal S256x256 .bf16) (acc : Vec Ideal S256x256 .f32) (ks : Vec Ideal S8x256 .f32) (i o : Fin 256) :
    k0_pay1 wv wo acc ks (ix2 i ⟨o.val, by omega⟩)
      = ∑ c : Fin 256, acc (ix2 i c) * ∑ j : Fin 256, wv (ix2 c j) * wo (ix2 j o) := by
  pointwise [k0_pay1]

/-- Its right part: every column holds the key sums. -/
theorem k0_pay1_right (wv wo : Vec Ideal S256x256 .bf16) (acc : Vec Ideal S256x256 .f32) (ks : Vec Ideal S8x256 .f32) (i : Fin 256)
    (o : Fin 128) : k0_pay1 wv wo acc ks (ix2 i ⟨256 + o.val, by omega⟩) = ∑ s : Fin 8, ks (ix2 s i) := by
  pointwise [k0_pay1]

/-- What the second call writes, when the right part of its matrix holds the same column everywhere. -/
theorem k1_pay1_apply (q : Vec Ideal S16384x256 .fp8e4m3) (b : Vec Ideal S256x384 .f32) (bo : Vec Ideal S1x256 .f32)
    (M : Fin 256 → Fin 256 → EReal) (s : Fin 256 → EReal) (hM : ∀ i o : Fin 256, b (ix2 i ⟨o.val, by omega⟩) = M i o)
    (hs : ∀ (i : Fin 256) (o : Fin 128), b (ix2 i ⟨256 + o.val, by omega⟩) = s i) (r : Fin 16384) (o : Fin 256) :
    k1_pay1 q b bo (ix2 r o)
      = (∑ i : Fin 256, q (ix2 r i) * M i o) * Ideal.div 1 (max (∑ i : Fin 256, q (ix2 r i) * s i) tiny) + bo (ix2 0 o) := by
  pointwise [k1_pay1]
  have right (n : Nat) (h : n < 128) (i : Fin 256) : b (ix2 i ⟨256 + n, by omega⟩) = s i := hs i ⟨n, h⟩
  split <;> rename_i h
  · simp only [hM, right _ h]
  · simp only [hM, right _ (show o.val - 128 < 128 by omega)]

end Cert.KernelIdeal.Lga

end
-- ==== Proof.Totals.lean ====
/-
  The first call's sums after its last point, over the extended reals: sums over all the rows.
-/
module

public import proofs.«01_k».proof.Proof.Blocks
public import proofs.«01_k».proof.Proof.Values

@[expose] public section

set_option maxRecDepth 16384

noncomputable section

namespace Cert.KernelIdeal.Lga

open Cert.KernelIdeal Cert.KernelIdeal.Gen
open Idealize.ShloMosaic Idealize.ShloMosaic.TcCoe
open Idealize.SL Idealize.SL.Sem

/-! ## Sums cut into parts -/

/-- A sum over the rows of every block is a sum over all rows. -/
theorem sum_blocks (f : Fin 262144 → EReal) : ∑ t : Fin 16, ∑ r : Fin 16384, f (rowOf t r) = ∑ n, f n := by
  rw [← Fintype.sum_prod_type' (f := fun t r => f (rowOf t r))]
  refine Fintype.sum_equiv (finProdFinEquiv (m := 16) (n := 16384)) _ f fun p => congrArg f (Fin.ext ?_)
  show p.1.val * 16384 + p.2.val = p.2.val + 16384 * p.1.val
  omega

/-- A sum over the eight parts of a block's rows is a sum over its rows. -/
theorem sum_parts (f : Fin 16384 → EReal) :
    ∑ s : Fin 8, ∑ a : Fin 2048, f ⟨a.val * 8 + s.val, by omega⟩ = ∑ r, f r := by
  rw [Finset.sum_comm, ← Fintype.sum_prod_type' (f := fun (a : Fin 2048) (s : Fin 8) => f ⟨a.val * 8 + s.val, by omega⟩)]
  refine Fintype.sum_equiv (finProdFinEquiv (m := 2048) (n := 8)) _ f fun p => congrArg f (Fin.ext ?_)
  show p.1.val * 8 + p.2.val = p.2.val + 8 * p.1.val
  omega

/-- A running total that starts at the first term and adds each later one is, after the last of the 16, the sum of all. -/
theorem running_total (S : (n : ℕ) → n < 16 → EReal) (g : Fin 16 → EReal) (first : S 0 (by decide) = g 0)
    (later : ∀ (n : ℕ) (h : n + 1 < 16), S (n + 1) h = S n (Nat.lt_of_succ_lt h) + g ⟨n + 1, h⟩) :
    S 15 (by decide) = ∑ t, g t := by
  have upto (n : ℕ) : ∀ h : n < 16, S n h = ∑ t ∈ Finset.range (n + 1), if h : t < 16 then g ⟨t, h⟩ else 0 := by
    induction n with
    | zero => intro h; rw [first]; simp
    | succ n ih => intro h; rw [later n h, ih, Finset.sum_range_succ _ (n + 1), dif_pos h]
  rw [upto 15, Finset.sum_range]
  exact Finset.sum_congr rfl fun t _ => dif_pos t.isLt

/-! ## The totals -/

variable (V : Bufs (F := Ideal))

/-- The entries of the rows as the first call finds them. -/
abbrev rows (c : Dev nD) (n : Fin 262144) (k : Fin 256) : EReal := V c main_arg0 (ix2 n k)
/-- The entries of the query and key weights as the first call finds them, one row for each feature. -/
abbrev weightsQ (c : Dev nD) (i k : Fin 256) : EReal := V c main_call0_v1 (ix2 k i)
abbrev weightsK (c : Dev nD) (i k : Fin 256) : EReal := V c main_call0_v3 (ix2 k i)

/-- A block's keys are the features of its rows. -/
theorem keys_block (c : Dev nD) (t : Fin cfg0.N) (r : Fin 16384) (i : Fin 256) :
    k0_pay4 (block0 V c 0 t) (block0 V c 2 t) (ix2 r i) = features (rows V c) (weightsK V c) (rowOf t r) i := by
  rw [k0_pay4_apply]
  exact congrArg feat (Finset.sum_congr rfl fun k _ => by rw [block0_0, block0_2])

/-- A block's queries are the features of its rows. -/
theorem queries_block (c : Dev nD) (t : Fin cfg0.N) (r : Fin 16384) (i : Fin 256) :
    k0_pay3 (block0 V c 0 t) (block0 V c 1 t) (ix2 r i) = features (rows V c) (weightsQ V c) (rowOf t r) i := by
  rw [k0_pay3_apply]
  exact congrArg feat (Finset.sum_congr rfl fun k _ => by rw [block0_0, block0_1])

/-- A block's product of keys and rows. -/
theorem product_block (c : Dev nD) (t : Fin cfg0.N) (i k : Fin 256) :
    k0_pay5 (block0 V c 0 t) (block0 V c 2 t) (ix2 i k)
      = ∑ r : Fin 16384, features (rows V c) (weightsK V c) (rowOf t r) i * rows V c (rowOf t r) k := by
  rw [k0_pay5_apply]
  exact Finset.sum_congr rfl fun r _ => by rw [keys_block, block0_0]

/-- THE PRODUCT OF KEYS AND ROWS after the last point: a sum over all rows. -/
theorem product_total (c : Dev nD) (i k : Fin 256) :
    (sums V c 15 lastPoint.isLt).1 (ix2 i k) = ∑ n, features (rows V c) (weightsK V c) n i * rows V c n k := by
  rw [← sum_blocks]
  refine (running_total (fun n h => (sums V c n h).1 (ix2 i k))
    (fun t => k0_pay5 (block0 V c 0 t) (block0 V c 2 t) (ix2 i k)) rfl fun n h => ?_).trans
    (Finset.sum_congr rfl fun t _ => product_block V c t i k)
  exact k0_pay7_apply _ _ _ i k

/-- THE KEY SUMS after the last point, their eight parts together: a sum over all rows. -/
theorem keys_total (c : Dev nD) (i : Fin 256) :
    ∑ s : Fin 8, (sums V c 15 lastPoint.isLt).2 (ix2 s i) = ∑ n, features (rows V c) (weightsK V c) n i := by
  have part (s : Fin 8) : (sums V c 15 lastPoint.isLt).2 (ix2 s i)
      = ∑ t : Fin 16, k0_pay6 (block0 V c 0 t) (block0 V c 2 t) (ix2 s i) :=
    running_total (fun n h => (sums V c n h).2 (ix2 s i)) (fun t => k0_pay6 (block0 V c 0 t) (block0 V c 2 t) (ix2 s i)) rfl
      fun n h => k0_pay8_apply _ _ _ s i
  simp only [part]
  rw [Finset.sum_comm, ← sum_blocks]
  refine Finset.sum_congr rfl fun t _ => ?_
  rw [← sum_parts fun r => features (rows V c) (weightsK V c) (rowOf t r) i]
  refine Finset.sum_congr rfl fun s _ => ?_
  rw [k0_pay6_apply]
  exact Finset.sum_congr rfl fun a _ => keys_block V c t _ i

end Cert.KernelIdeal.Lga

end
-- ==== Proof.KernelValue.lean ====
/-
  The kernel's value over the extended reals: attention, with the value and output weights folded together.
-/
module

public import proofs.«01_k».proof.Proof.Totals
public import proofs.«01_k».proof.Proof.Run

@[expose] public section

set_option maxRecDepth 16384

noncomputable section

namespace Cert.KernelIdeal.Lga

open Cert.KernelIdeal Cert.KernelIdeal.Gen
open Idealize.ShloMosaic Idealize.ShloMosaic.TcCoe
open Idealize.SL Idealize.SL.Sem

/-! ## The two calls -/

section Calls

variable (V : Bufs (F := Ideal))

/-- The entries of the value and output weights as the first call finds them, one row for each feature. -/
abbrev weightsV (c : Dev nD) (j k : Fin 256) : EReal := V c main_call0_v5 (ix2 k j)
abbrev weightsO (c : Dev nD) (o j : Fin 256) : EReal := V c main_call0_v7 (ix2 j o)
/-- The entries of what the second call finds: the queries and the bias. -/
abbrev queries (c : Dev nD) (n : Fin 262144) (i : Fin 256) : EReal := V c main_call0_v9_0 (ix2 n i)
abbrev bias (c : Dev nD) (o : Fin 256) : EReal := V c main_call0_v8 (ix2 0 o)

/-- Every row is a row of some block. -/
theorem exists_block (n : Fin 262144) : ∃ (t : Fin 16) (r : Fin 16384), n = rowOf t r :=
  ⟨⟨n.val / 16384, by omega⟩, ⟨n.val % 16384, by omega⟩, Fin.ext (by show n.val = n.val / 16384 * 16384 + n.val % 16384; omega)⟩

/-- The left part of the matrix the first call leaves. -/
theorem matrix_left (c : Dev nD) (i o : Fin 256) :
    (dat0 V c).arrAt 8 cfg0.N (ix2 i (⟨o.val, by omega⟩ : Fin 384))
      = ∑ k : Fin 256, (∑ n, features (rows V c) (weightsK V c) n i * rows V c n k)
          * ∑ j : Fin 256, weightsV V c j k * weightsO V c o j := by
  rw [matrix_at, k0_pay1_left]
  simp only [product_total, block0_3, block0_4]

/-- Its right part. -/
theorem matrix_right (c : Dev nD) (i : Fin 256) (o : Fin 128) :
    (dat0 V c).arrAt 8 cfg0.N (ix2 i (⟨256 + o.val, by omega⟩ : Fin 384)) = ∑ n, features (rows V c) (weightsK V c) n i := by
  rw [matrix_at, k0_pay1_right, keys_total]

/-- The queries the first call leaves. -/
theorem queries_left (c : Dev nD) (n : Fin 262144) (i : Fin 256) :
    (dat0 V c).arrAt 5 cfg0.N (ix2 n i) = features (rows V c) (weightsQ V c) n i := by
  obtain ⟨t, r, rfl⟩ := exists_block n
  exact (queries_at V c t r i).trans (queries_block V c t r i)

/-- The result the second call leaves, of the queries, the matrix and the bias row it finds. -/
theorem result_left (c : Dev nD) (M : Fin 256 → Fin 256 → EReal) (s : Fin 256 → EReal)
    (hM : ∀ i o : Fin 256, V c main_call0_v9_3 (ix2 i (⟨o.val, by omega⟩ : Fin 384)) = M i o)
    (hs : ∀ (i : Fin 256) (o : Fin 128), V c main_call0_v9_3 (ix2 i (⟨256 + o.val, by omega⟩ : Fin 384)) = s i) (n : Fin 262144) (o : Fin 256) :
    (dat1 V c).arrAt 3 cfg1.N (ix2 n o)
      = (∑ i : Fin 256, queries V c n i * M i o) * Ideal.div 1 (max (∑ i : Fin 256, queries V c n i * s i) tiny) + bias V c o := by
  obtain ⟨t', r, rfl⟩ := exists_block n
  revert t'
  show ∀ t : Fin cfg1.N, _
  intro t
  refine (result_at V c t r o).trans ?_
  rw [k1_pay1_apply _ _ _ M s (fun i o => (block1_1 V c t _).trans (hM i o)) (fun i o => (block1_1 V c t _).trans (hs i o)), block1_2]
  simp only [block1_0]

end Calls

/-! ## The host's lines -/

variable (m : (ℓ : Loc nD τ sig) → Buf (Elt Ideal) ℓ)

/-- The host hands the calls each weight transposed: the query weights. -/
theorem host_wq (c : Dev nD) (k i : Fin 256) : V1 m c main_call0_v1 (ix2 k i) = m ((c : Thread nD τ).loc main_arg1) (ix2 i k) := by
  have h : (V1 m c main_call0_v1 : FVec Ideal S256x256 .bf16)
      = truncf (F := Ideal) .bf16 (transpose S256x256 [1, 0] (m ((c : Thread nD τ).loc main_arg1)) transposes_S256x256_S256x256_1_0) bitsLt_bf16_f32 := by
    unfold V1
    simp only [hostOps0, StableHlo.TRef.unary, StableHlo.TRef.reshape, StableHlo.TRef.toBuf, StableHlo.TRef.ofBuf, cast_eq]
    after_results_simp
  refine (congrFun h _).trans ?_
  pointwise

/-- The key weights. -/
theorem host_wk (c : Dev nD) (k i : Fin 256) : V1 m c main_call0_v3 (ix2 k i) = m ((c : Thread nD τ).loc main_arg2) (ix2 i k) := by
  have h : (V1 m c main_call0_v3 : FVec Ideal S256x256 .bf16)
      = truncf (F := Ideal) .bf16 (transpose S256x256 [1, 0] (m ((c : Thread nD τ).loc main_arg2)) transposes_S256x256_S256x256_1_0) bitsLt_bf16_f32 := by
    unfold V1
    simp only [hostOps0, StableHlo.TRef.unary, StableHlo.TRef.reshape, StableHlo.TRef.toBuf, StableHlo.TRef.ofBuf, cast_eq]
    after_results_simp
  refine (congrFun h _).trans ?_
  pointwise

/-- The value weights. -/
theorem host_wv (c : Dev nD) (k i : Fin 256) : V1 m c main_call0_v5 (ix2 k i) = m ((c : Thread nD τ).loc main_arg3) (ix2 i k) := by
  have h : (V1 m c main_call0_v5 : FVec Ideal S256x256 .bf16)
      = truncf (F := Ideal) .bf16 (transpose S256x256 [1, 0] (m ((c : Thread nD τ).loc main_arg3)) transposes_S256x256_S256x256_1_0) bitsLt_bf16_f32 := by
    unfold V1
    simp only [hostOps0, StableHlo.TRef.unary, StableHlo.TRef.reshape, StableHlo.TRef.toBuf, StableHlo.TRef.ofBuf, cast_eq]
    after_results_simp
  refine (congrFun h _).trans ?_
  pointwise

/-- The output weights. -/
theorem host_wo (c : Dev nD) (k i : Fin 256) : V1 m c main_call0_v7 (ix2 k i) = m ((c : Thread nD τ).loc main_arg4) (ix2 i k) := by
  have h : (V1 m c main_call0_v7 : FVec Ideal S256x256 .bf16)
      = truncf (F := Ideal) .bf16 (transpose S256x256 [1, 0] (m ((c : Thread nD τ).loc main_arg4)) transposes_S256x256_S256x256_1_0) bitsLt_bf16_f32 := by
    unfold V1
    simp only [hostOps0, StableHlo.TRef.unary, StableHlo.TRef.reshape, StableHlo.TRef.toBuf, StableHlo.TRef.ofBuf, cast_eq]
    after_results_simp
  refine (congrFun h _).trans ?_
  pointwise

/-- The bias, as a row. -/
theorem host_bias (c : Dev nD) (o : Fin 256) : V1 m c main_call0_v8 (ix2 0 o) = m ((c : Thread nD τ).loc main_arg5) (ix1 o) := by
  have h : (V1 m c main_call0_v8 : FVec Ideal S1x256 .f32)
      = shapeCast S1x256 (m ((c : Thread nD τ).loc main_arg5) : FVec Ideal S256 .f32) shapeCasts_S256_S1x256 := by
    unfold V1
    simp only [hostOps0, StableHlo.TRef.unary, StableHlo.TRef.reshape, StableHlo.TRef.toBuf, StableHlo.TRef.ofBuf, cast_eq]
    after_results_simp
    rfl
  refine (congrFun h _).trans ?_
  pointwise

/-! ## The whole program -/

/-- THE KERNEL'S VALUE: its result at row `n` and output `o` is attention of its arguments' entries, with the value and
    output weights folded together. -/
theorem B3_apply (c : Dev nD) (n : Fin 262144) (o : Fin 256) :
    B3 m c main_v0 (ix2 n o)
      = foldedAttention (fun (r : Fin 262144) (i : Fin 256) => m ((c : Thread nD τ).loc main_arg0) (ix2 r i))
          (fun i j => m ((c : Thread nD τ).loc main_arg1) (ix2 i j)) (fun i j => m ((c : Thread nD τ).loc main_arg2) (ix2 i j))
          (fun i j => m ((c : Thread nD τ).loc main_arg3) (ix2 i j)) (fun i j => m ((c : Thread nD τ).loc main_arg4) (ix2 i j))
          (fun i => m ((c : Thread nD τ).loc main_arg5) (ix1 i)) n o := by
  have hx : rows (fun c b => V1 m c b) c = fun n i => m ((c : Thread nD τ).loc main_arg0) (ix2 n i) :=
    funext fun n => funext fun i => congrFun (V1_of m c main_arg0 (by decide)) (ix2 n i)
  have hq : weightsQ (fun c b => V1 m c b) c = fun i j => m ((c : Thread nD τ).loc main_arg1) (ix2 i j) :=
    funext fun i => funext fun j => host_wq m c j i
  have hk : weightsK (fun c b => V1 m c b) c = fun i j => m ((c : Thread nD τ).loc main_arg2) (ix2 i j) :=
    funext fun i => funext fun j => host_wk m c j i
  have hv : weightsV (fun c b => V1 m c b) c = fun i j => m ((c : Thread nD τ).loc main_arg3) (ix2 i j) :=
    funext fun i => funext fun j => host_wv m c j i
  have ho : weightsO (fun c b => V1 m c b) c = fun i j => m ((c : Thread nD τ).loc main_arg4) (ix2 i j) :=
    funext fun i => funext fun j => host_wo m c j i
  have hb : bias (fun c b => B2 m c b) c = fun i => m ((c : Thread nD τ).loc main_arg5) (ix1 i) :=
    funext fun i => (congrFun (B2_ne m c main_call0_v8 (by decide) (by decide) (by decide) (by decide)) (ix2 0 i)).trans (host_bias m c i)
  have qs : queries (fun c b => B2 m c b) c = features (rows (fun c b => V1 m c b) c) (weightsQ (fun c b => V1 m c b) c) :=
    funext fun n => funext fun i => (congrFun (B2_q m c) (ix2 n i)).trans (queries_left _ c n i)
  refine (congrFun (B3_out m c) (ix2 n o)).trans ((result_left (fun c b => B2 m c b) c _ _
    (fun i o => (congrFun (B2_mat m c) _).trans (matrix_left _ c i o)) (fun i o => (congrFun (B2_mat m c) _).trans (matrix_right _ c i o)) n o).trans ?_)
  rw [qs, hb, hx, hq, hk, hv, ho]
  rfl

end Cert.KernelIdeal.Lga

end
-- ==== Proof.RefValue.lean ====
/-
  What the reference computes, at an index, over the extended reals.
-/
module

public import Idealize.ShloMosaic.Lib.Pointwise
public import proofs.«01_k».proof.Proof.Algebra
public import proofs.«01_k».proof.Proof.Gen.ReferenceIdeal.Run

@[expose] public section

noncomputable section

namespace Cert.ReferenceIdeal.Lga

open Cert.ReferenceIdeal Cert.ReferenceIdeal.Gen
open Idealize.ShloMosaic Idealize.ShloMosaic.TcCoe Idealize.SL.Sem
open Cert.KernelIdeal.Lga (attention elu_add_one)

/-- THE REFERENCE'S VALUE: its result at row `n` and output `o` is attention of its arguments' entries. -/
theorem res_apply (m : (ℓ : Loc nD τ sig) → Buf (Elt Ideal) ℓ) (c : Dev nD) (n : Fin 262144) (o : Fin 256) :
    Value.res_main_v28 m c (ix2 n o)
      = attention (fun (r : Fin 262144) (i : Fin 256) => m ((c.tc : Thread nD τ).loc main_arg0) (ix2 r i))
          (fun i j => m ((c.tc : Thread nD τ).loc main_arg1) (ix2 i j)) (fun i j => m ((c.tc : Thread nD τ).loc main_arg2) (ix2 i j))
          (fun i j => m ((c.tc : Thread nD τ).loc main_arg3) (ix2 i j)) (fun i j => m ((c.tc : Thread nD τ).loc main_arg4) (ix2 i j))
          (fun i => m ((c.tc : Thread nD τ).loc main_arg5) (ix1 i)) n o := by
  have zero : id (constant (F := Ideal) S_ FTy.f32 0#32) ix0 = 0 := Ideal.ofBits_zero_f32
  pointwise [Value.res_main_v28]
  simp only [zero, elu_add_one]
  rfl

end Cert.ReferenceIdeal.Lga

end
-- ==== Proof.Finite.lean ====
/-
  What the precondition says: the rows, the value weights and the output weights are finite.
-/
module

public import Idealize.ShloMosaic.Lib.Pointwise
public import Idealize.ShloMosaic.Lib.ReduceAll
public import proofs.«01_k».proof.Proof.Gen.Pre_finite

@[expose] public section

noncomputable section

namespace Cert.Pre_finite.Lga

open Cert.Pre_finite Cert.Pre_finite.Gen
open Idealize.ShloMosaic

/-- An extended real whose absolute value is below infinity is a real. -/
theorem real_of_abs (y : EReal) (h : max y (-y) < ⊤) : ∃ r : ℝ, y = r := by
  induction y with
  | bot => simp at h
  | coe r => exact ⟨r, rfl⟩
  | top => simp at h

/-- The pattern the comparison is against reads as infinity. -/
theorem infinity : Ideal.ofBits .f32 0x7F800000#32 = ⊤ := by
  have sign : ¬ BitVec.extractLsb' 31 1 0x7F800000#32 = 1#1 := by decide
  have exponent : (BitVec.extractLsb' 23 8 0x7F800000#32).toNat = 255 := by decide
  have fraction : (BitVec.extractLsb' 0 23 0x7F800000#32).toNat = 0 := by decide
  simp only [Ideal.ofBits, Ideal.ieee, exponent, fraction]
  norm_num [sign]

/-- One comparison of an array with infinity, true of an entry: the entry is a real. -/
theorem entry_real {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) : ∃ r : ℝ, x i = r := by
  have e' : Ideal.cmp .olt (max (x i) (-(x i))) (Ideal.ofBits .f32 0x7F800000#32) = 1#1 := e
  rw [infinity] at e'
  refine real_of_abs _ ?_
  by_contra n
  simp [Ideal.cmp, n] at e'

/-- THE PRECONDITION'S MEANING: every entry of the rows, of the value weights and of the output weights is a real. -/
theorem finite_entries (x : FVec Ideal S262144x256 .f32) (wq wk wv wo : FVec Ideal S256x256 .f32) (bo : FVec Ideal S256 .f32)
    (h : fn x wq wk wv wo bo = fun _ => 1#1) :
    (∀ i, ∃ r : ℝ, x i = r) ∧ (∀ i, ∃ r : ℝ, wv i = r) ∧ ∀ i, ∃ r : ℝ, wo i = r := by
  have e := congrFun h ix0
  obtain ⟨e1, ho⟩ := IntOp.andi_eq_one.1 e
  obtain ⟨hx, hv⟩ := IntOp.andi_eq_one.1 e1
  exact ⟨fun i => entry_real x _ i (Host.reduce_andi_all _ _ _ _ _ hx i), fun i => entry_real wv _ i (Host.reduce_andi_all _ _ _ _ _ hv i),
    fun i => entry_real wo _ i (Host.reduce_andi_all _ _ _ _ _ ho i)⟩

end Cert.Pre_finite.Lga

end
-- ==== Proof.lean ====
/-
  The claims, proved: the frames of the kernel (over floats and over the extended reals) and of the reference, that the two
  prints of the kernel are one text, and that over the extended reals the kernel's result is the reference's when the rows,
  the value weights and the output weights are finite.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Run
public import proofs.«01_k».proof.Proof.KernelValue
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem Idealize.ShloMosaic.TcCoe

/-! ## The program under its two names

The program is printed twice, once as it is and once over the extended reals; the two are the same text, so a run of the
one is a run of the other. -/

/-- The two prints have the same main. -/
theorem main_eq : Cert.Kernel.main (F := Bits) = Cert.KernelIdeal.main (F := Bits) := rfl

/-- The two prints have the same table of kernel bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | ⟨_ + 2, h⟩, _ => exact absurd h (Nat.not_lt.2 (Nat.le_add_left _ _))

/-- And so the same definitions. -/
theorem defs_eq : Cert.Kernel.defs (F := Bits) = Cert.KernelIdeal.defs (F := Bits) :=
  congrArg (Pipeline.defs Cert.KernelIdeal.pcfgs) bodies_eq

/-! ## The frames -/

/-- The program over floats: every run ends, the arguments are unchanged and every semaphore is at zero. -/
theorem frame_kernel : Cert.quiescent_Kernel := fun m g _ => by
  rw [main_eq, defs_eq]
  exact (θ_run _ _ _).mono (fun r h => ⟨fun c => (h.1 c).2, h.2⟩) (Cert.KernelIdeal.Lga.run (F := Bits) m g)

/-- The program over the extended reals: the same. -/
theorem frame_ideal : Cert.quiescent_KernelIdeal := fun m g _ =>
  (θ_run _ _ _).mono (fun r h => ⟨fun c => (h.1 c).2, h.2⟩) (Cert.KernelIdeal.Lga.run (F := Ideal) m g)

/-- The reference: every run ends and the arguments are unchanged; it has no semaphore. -/
theorem frame_reference : Cert.quiescent_ReferenceIdeal := fun m g _ =>
  (θ_run _ _ _).mono (fun r h => ⟨fun c => (h c).2, funext fun s => ((by decide : ∀ s : SemLoc Cert.ReferenceIdeal.sig, False) s.2).elim⟩) (Cert.ReferenceIdeal.Value.run (F := Ideal) m g)

/-! ## The values -/

/-- With the rows, the value weights and the output weights finite, and equal arguments, the kernel's result over the
    extended reals is the reference's, entry by entry. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (fin : Cert.Pre_KernelIdeal_finite m) (c : Dev Cert.KernelIdeal.nD)
    (same : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v28 m' c = Cert.KernelIdeal.Lga.B3 m c Cert.KernelIdeal.main_v0 := by
  obtain ⟨fx, fv, fo⟩ := Cert.Pre_finite.Lga.finite_entries _ _ _ _ _ _ (fin c)
  obtain ⟨e0, e1, e2, e3, e4, e5⟩ := same
  have entry (n : Fin 262144) (o : Fin 256) : Cert.ReferenceIdeal.Value.res_main_v28 m' c (ix2 n o)
      = Cert.KernelIdeal.Lga.B3 m c Cert.KernelIdeal.main_v0 (ix2 n o) := by
    refine (Cert.ReferenceIdeal.Lga.res_apply m' c n o).trans (Eq.trans ?_ (Cert.KernelIdeal.Lga.B3_apply m c n o).symm)
    rw [Cert.KernelIdeal.Lga.folded_eq _ _ _ _ _ _ (fun n i => fx (ix2 n i)) (fun j k => fv (ix2 j k)) (fun o j => fo (ix2 o j)),
      e0, e1, e2, e3, e4, e5]
  refine funext fun i : Cert.KernelIdeal.S262144x256.Idx => ?_
  have hi : i = ix2 (i 0) (i 1) := funext fun a => by fin_cases a <;> rfl
  rw [hi]
  exact entry (i 0) (i 1)

/-- THE VALUE CLAIM: over the extended reals, with the rows, the value weights and the output weights finite, the kernel's
    result is the reference's, whatever the query weights, the key weights and the bias. -/
theorem values_agree : Cert.algebraic_KernelIdeal_ReferenceIdeal_pre_finite := fun m g m' g' fin same =>
  ⟨fun c => Cert.KernelIdeal.Lga.B3 m c Cert.KernelIdeal.main_v0,
    (θ_run _ _ _).mono (fun _ h c => h.1 c) (Cert.KernelIdeal.Lga.run (F := Ideal) m g),
    (θ_run _ _ _).mono (fun _ h c => ⟨(h c).1.trans (results_agree m m' fin c (same c)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_reference, fun m g _ => frame_reference m g trivial, trivial,
  values_agree⟩

end Cert.Proof

end
